-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_table_KernelIdeal [hPre_in_table_KernelIdeal : Cert.Pre_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table_ReferenceIdeal [hPre_in_table_ReferenceIdeal : Cert.Pre_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_table_KernelIdeal [hKernelIdeal : Cert.KernelIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table_ReferenceIdeal [hReferenceIdeal : Cert.ReferenceIdeal.Facts] [hPre_in_table_ReferenceIdeal : Cert.Pre_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_table_KernelIdeal [hKernelIdeal : Cert.KernelIdeal.Facts] [hReferenceIdeal : Cert.ReferenceIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 1024]⟩ ⟨2, ![16384, 1024]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table_KernelIdeal : Cert.Pre_in_table_KernelIdeal.Facts) (hPre_in_table_ReferenceIdeal : Cert.Pre_in_table_ReferenceIdeal.Facts),
    quiescent_Kernel (hKernel := hKernel)
    ∧ quiescent_KernelIdeal (hKernelIdeal := hKernelIdeal)
    ∧ quiescent_KernelIdeal_pre_in_table_KernelIdeal (hKernelIdeal := hKernelIdeal) (hPre_in_table_KernelIdeal := hPre_in_table_KernelIdeal)
    ∧ quiescent_ReferenceIdeal (hReferenceIdeal := hReferenceIdeal)
    ∧ quiescent_ReferenceIdeal_pre_in_table_ReferenceIdeal (hReferenceIdeal := hReferenceIdeal) (hPre_in_table_ReferenceIdeal := hPre_in_table_ReferenceIdeal)
    ∧ preserves_Kernel_KernelIdeal
    ∧ algebraic_KernelIdeal_ReferenceIdeal_pre_in_table_KernelIdeal (hKernelIdeal := hKernelIdeal) (hReferenceIdeal := hReferenceIdeal) (hPre_in_table_KernelIdeal := hPre_in_table_KernelIdeal)
-- ==== Pre_in_table_KernelIdeal.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S8192x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_in_table_ReferenceIdeal.lean ====
abbrev S1024 : Shape := ⟨1, ![1024]⟩
abbrev S16384x1024 : Shape := ⟨2, ![16384, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S16384x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S8192x1024 : Shape := ⟨2, ![8192, 1024]⟩
abbrev S_ : Shape := ⟨0, ![]⟩
abbrev S1024x1 : Shape := ⟨2, ![1024, 1]⟩
abbrev S1024x1024 : Shape := ⟨2, ![1024, 1024]⟩
abbrev S8 : Shape := ⟨1, ![8]⟩
abbrev S1 : Shape := ⟨1, ![1]⟩
abbrev S1x1024 : Shape := ⟨2, ![1, 1024]⟩
abbrev S128x1024 : Shape := ⟨2, ![128, 1024]⟩
abbrev S128x1 : Shape := ⟨2, ![128, 1]⟩

abbrev nBuf : Space → Nat
  | .hbm => 30
  | .vmem => 4
  | .smem => 1
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S1024, .i1⟩
  | .hbm, ⟨27, _⟩ => ⟨S1024, .f32⟩
  | .hbm, ⟨28, _⟩ => ⟨S1024x1, .f32⟩
  | .hbm, ⟨29, _⟩ => ⟨S1024x1024, .f32⟩
  | .local _ .vmem, ⟨0, _⟩ => ⟨S1024x1, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .smem, ⟨0, _⟩ => ⟨S1024, .i32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_c_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
@[reducible] def k0_t1_loop : Scf.Loop 32 :=
  let c0_i32_8 : BitVec 32 := 0#32
  let c128_i32 : BitVec 32 := 128#32
  let v17 : BitVec 32 := Scalar.addi c0_i32_8 c128_i32
  let c1_i32_9 : BitVec 32 := 1#32
  ⟨c0_i32_8, v17, c1_i32_9⟩
def k0_off1 (k0_t1 : Fin k0_t1_loop.trips) : Fin 1 → Nat :=
  let c0_i32_8 : BitVec 32 := 0#32
  let c1_i32_9 : BitVec 32 := 1#32
  let arg9 : BitVec 32 := Scf.iv c0_i32_8 c1_i32_9 k0_t1
  let v377 : Index := Scalar.indexCast arg9
  ![v377.toNat]
def k0_off2 (k0_t1 : Fin k0_t1_loop.trips) : Fin 2 → Nat :=
  let c0_i32_8 : BitVec 32 := 0#32
  let c1_i32_9 : BitVec 32 := 1#32
  let arg9 : BitVec 32 := Scf.iv c0_i32_8 c1_i32_9 k0_t1
  let c0_i32_374 : BitVec 32 := 0#32
  ![arg9.toNat, 0]
def k0_off3 (v378 : BitVec 32) : Fin 2 → Nat :=
  let c0_i32_375 : BitVec 32 := 0#32
  ![v378.toNat, 0]

def k0_chk1 (v378 : BitVec 32) : Prop :=
  (∀ a, (k0_off3 v378) a + S1x1024.size a ≤ S8192x1024.size a)
theorem k0_off3_inb : ∀ (v378 : BitVec 32) (k0_hw1 : k0_chk1 v378), ∀ a, (k0_off3 v378) a + S1x1024.size a ≤ S8192x1024.size a := fun v378 k0_hw1 => k0_hw1

@[reducible] def k0_t2_loop : Scf.Loop 32 :=
  let c128_i32_11 : BitVec 32 := 128#32
  let c128_i32_12 : BitVec 32 := 128#32
  let v18 : BitVec 32 := Scalar.addi c128_i32_11 c128_i32_12
  let c1_i32_13 : BitVec 32 := 1#32
  ⟨c128_i32_11, v18, c1_i32_13⟩
def k0_off4 (k0_t2 : Fin k0_t2_loop.trips) : Fin 1 → Nat :=
  let c128_i32_11 : BitVec 32 := 128#32
  let c1_i32_13 : BitVec 32 := 1#32
  let arg9 : BitVec 32 := Scf.iv c128_i32_11 c1_i32_13 k0_t2
  let v377 : Index := Scalar.indexCast arg9
  ![v377.toNat]
def k0_off5 (k0_t2 : Fin k0_t2_loop.trips) : Fin 2 → Nat :=
  let c128_i32_11 : BitVec 32 := 128#32
  let c1_i32_13 : BitVec 32 := 1#32
  let arg9 : BitVec 32 := Scf.iv c128_i32_11 c1_i32_13 k0_t2
  let c0_i32_374 : BitVec 32 := 0#32
  ![arg9.toNat, 0]
def k0_off6 (v378 : BitVec 32) : Fin 2 → Nat :=
  let c0_i32_375 : BitVec 32 := 0#32
  ![v378.toNat, 0]

def k0_chk2 (v378 : BitVec 32) : Prop :=
  (∀ a, (k0_off6 v378) a + S1x1024.size a ≤ S8192x1024.size a)
theorem k0_off6_inb : ∀ (v378 : BitVec 32) (k0_hw2 : k0_chk2 v378), ∀ a, (k0_off6 v378) a + S1x1024.size a ≤ S8192x1024.size a := fun v378 k0_hw2 => k0_hw2

@[reducible] def k0_t3_loop : Scf.Loop 32 :=
  let c0_i32_15 : BitVec 32 := 0#32
  let c128_i32_16 : BitVec 32 := 128#32
  let v19 : BitVec 32 := Scalar.addi c0_i32_15 c128_i32_16
  let c1_i32_17 : BitVec 32 := 1#32
  ⟨c0_i32_15, v19, c1_i32_17⟩
def k0_dev2 (d0 : Dev nD) : Nat :=
  let c0_i32_28 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_27 : BitVec 32 := 16#32
  let v31 : BitVec 32 := Scalar.muli v9 c16_i32_27
  let v32 : BitVec 32 := Scalar.addi c0_i32_28 v31
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_29 : BitVec 32 := 4#32
  let v33 : BitVec 32 := Scalar.muli v5 c4_i32_29
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v35 : BitVec 32 := Scalar.muli v8 c1_i32_30
  let v36 : BitVec 32 := Scalar.addi v34 v35
  v36.toNat
@[reducible] def k0_t4_loop : Scf.Loop 32 :=
  let c256_i32 : BitVec 32 := 256#32
  let c128_i32_35 : BitVec 32 := 128#32
  let v43 : BitVec 32 := Scalar.addi c256_i32 c128_i32_35
  let c1_i32_36 : BitVec 32 := 1#32
  ⟨c256_i32, v43, c1_i32_36⟩
def k0_off7 (k0_t4 : Fin k0_t4_loop.trips) : Fin 1 → Nat :=
  let c256_i32 : BitVec 32 := 256#32
  let c1_i32_36 : BitVec 32 := 1#32
  let arg9 : BitVec 32 := Scf.iv c256_i32 c1_i32_36 k0_t4
  let v377 : Index := Scalar.indexCast arg9
  ![v377.toNat]
def k0_off8 (k0_t4 : Fin k0_t4_loop.trips) : Fin 2 → Nat :=
  let c256_i32 : BitVec 32 := 256#32
  let c1_i32_36 : BitVec 32 := 1#32
  let arg9 : BitVec 32 := Scf.iv c256_i32 c1_i32_36 k0_t4
  let c0_i32_374 : BitVec 32 := 0#32
  ![arg9.toNat, 0]
def k0_off9 (v378 : BitVec 32) : Fin 2 → Nat :=
  let c0_i32_375 : BitVec 32 := 0#32
  ![v378.toNat, 0]

def k0_chk3 (v378 : BitVec 32) : Prop :=
  (∀ a, (k0_off9 v378) a + S1x1024.size a ≤ S8192x1024.size a)
theorem k0_off9_inb : ∀ (v378 : BitVec 32) (k0_hw3 : k0_chk3 v378), ∀ a, (k0_off9 v378) a + S1x1024.size a ≤ S8192x1024.size a := fun v378 k0_hw3 => k0_hw3

@[reducible] def k0_t5_loop : Scf.Loop 32 :=
  let c0_i32_38 : BitVec 32 := 0#32
  let c128_i32_39 : BitVec 32 := 128#32
  let v44 : BitVec 32 := Scalar.addi c0_i32_38 c128_i32_39
  let c1_i32_40 : BitVec 32 := 1#32
  ⟨c0_i32_38, v44, c1_i32_40⟩
def k0_dev3 (d0 : Dev nD) : Nat :=
  let c0_i32_51 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_50 : BitVec 32 := 16#32
  let v56 : BitVec 32 := Scalar.muli v9 c16_i32_50
  let v57 : BitVec 32 := Scalar.addi c0_i32_51 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_52 : BitVec 32 := 4#32
  let v58 : BitVec 32 := Scalar.muli v5 c4_i32_52
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v60 : BitVec 32 := Scalar.muli v8 c1_i32_53
  let v61 : BitVec 32 := Scalar.addi v59 v60
  v61.toNat
@[reducible] def k0_t6_loop : Scf.Loop 32 :=
  let c384_i32 : BitVec 32 := 384#32
  let c128_i32_58 : BitVec 32 := 128#32
  let v68 : BitVec 32 := Scalar.addi c384_i32 c128_i32_58
  let c1_i32_59 : BitVec 32 := 1#32
  ⟨c384_i32, v68, c1_i32_59⟩
def k0_off10 (k0_t6 : Fin k0_t6_loop.trips) : Fin 1 → Nat :=
  let c384_i32 : BitVec 32 := 384#32
  let c1_i32_59 : BitVec 32 := 1#32
  let arg9 : BitVec 32 := Scf.iv c384_i32 c1_i32_59 k0_t6
  let v377 : Index := Scalar.indexCast arg9
  ![v377.toNat]
def k0_off11 (k0_t6 : Fin k0_t6_loop.trips) : Fin 2 → Nat :=
  let c384_i32 : BitVec 32 := 384#32
  let c1_i32_59 : BitVec 32 := 1#32
  let arg9 : BitVec 32 := Scf.iv c384_i32 c1_i32_59 k0_t6
  let c0_i32_374 : BitVec 32 := 0#32
  ![arg9.toNat, 0]
def k0_off12 (v378 : BitVec 32) : Fin 2 → Nat :=
  let c0_i32_375 : BitVec 32 := 0#32
  ![v378.toNat, 0]

def k0_chk4 (v378 : BitVec 32) : Prop :=
  (∀ a, (k0_off12 v378) a + S1x1024.size a ≤ S8192x1024.size a)
theorem k0_off12_inb : ∀ (v378 : BitVec 32) (k0_hw4 : k0_chk4 v378), ∀ a, (k0_off12 v378) a + S1x1024.size a ≤ S8192x1024.size a := fun v378 k0_hw4 => k0_hw4

@[reducible] def k0_t7_loop : Scf.Loop 32 :=
  let c0_i32_61 : BitVec 32 := 0#32
  let c128_i32_62 : BitVec 32 := 128#32
  let v69 : BitVec 32 := Scalar.addi c0_i32_61 c128_i32_62
  let c1_i32_63 : BitVec 32 := 1#32
  ⟨c0_i32_61, v69, c1_i32_63⟩
def k0_dev4 (d0 : Dev nD) : Nat :=
  let c0_i32_74 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_73 : BitVec 32 := 16#32
  let v81 : BitVec 32 := Scalar.muli v9 c16_i32_73
  let v82 : BitVec 32 := Scalar.addi c0_i32_74 v81
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_75 : BitVec 32 := 4#32
  let v83 : BitVec 32 := Scalar.muli v5 c4_i32_75
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v85 : BitVec 32 := Scalar.muli v8 c1_i32_76
  let v86 : BitVec 32 := Scalar.addi v84 v85
  v86.toNat
@[reducible] def k0_t8_loop : Scf.Loop 32 :=
  let c512_i32 : BitVec 32 := 512#32
  let c128_i32_81 : BitVec 32 := 128#32
  let v93 : BitVec 32 := Scalar.addi c512_i32 c128_i32_81
  let c1_i32_82 : BitVec 32 := 1#32
  ⟨c512_i32, v93, c1_i32_82⟩
def k0_off13 (k0_t8 : Fin k0_t8_loop.trips) : Fin 1 → Nat :=
  let c512_i32 : BitVec 32 := 512#32
  let c1_i32_82 : BitVec 32 := 1#32
  let arg9 : BitVec 32 := Scf.iv c512_i32 c1_i32_82 k0_t8
  let v377 : Index := Scalar.indexCast arg9
  ![v377.toNat]
def k0_off14 (k0_t8 : Fin k0_t8_loop.trips) : Fin 2 → Nat :=
  let c512_i32 : BitVec 32 := 512#32
  let c1_i32_82 : BitVec 32 := 1#32
  let arg9 : BitVec 32 := Scf.iv c512_i32 c1_i32_82 k0_t8
  let c0_i32_374 : BitVec 32 := 0#32
  ![arg9.toNat, 0]
def k0_off15 (v378 : BitVec 32) : Fin 2 → Nat :=
  let c0_i32_375 : BitVec 32 := 0#32
  ![v378.toNat, 0]

def k0_chk5 (v378 : BitVec 32) : Prop :=
  (∀ a, (k0_off15 v378) a + S1x1024.size a ≤ S8192x1024.size a)
theorem k0_off15_inb : ∀ (v378 : BitVec 32) (k0_hw5 : k0_chk5 v378), ∀ a, (k0_off15 v378) a + S1x1024.size a ≤ S8192x1024.size a := fun v378 k0_hw5 => k0_hw5

@[reducible] def k0_t9_loop : Scf.Loop 32 :=
  let c0_i32_84 : BitVec 32 := 0#32
  let c128_i32_85 : BitVec 32 := 128#32
  let v94 : BitVec 32 := Scalar.addi c0_i32_84 c128_i32_85
  let c1_i32_86 : BitVec 32 := 1#32
  ⟨c0_i32_84, v94, c1_i32_86⟩
def k0_dev5 (d0 : Dev nD) : Nat :=
  let c0_i32_96 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_95 : BitVec 32 := 16#32
  let v106 : BitVec 32 := Scalar.muli v9 c16_i32_95
  let v107 : BitVec 32 := Scalar.addi c0_i32_96 v106
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_97 : BitVec 32 := 4#32
  let v108 : BitVec 32 := Scalar.muli v5 c4_i32_97
  let v109 : BitVec 32 := Scalar.addi v107 v108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_98 : BitVec 32 := 1#32
  let v110 : BitVec 32 := Scalar.muli v8 c1_i32_98
  let v111 : BitVec 32 := Scalar.addi v109 v110
  v111.toNat
@[reducible] def k0_t10_loop : Scf.Loop 32 :=
  let c640_i32 : BitVec 32 := 640#32
  let c128_i32_103 : BitVec 32 := 128#32
  let v118 : BitVec 32 := Scalar.addi c640_i32 c128_i32_103
  let c1_i32_104 : BitVec 32 := 1#32
  ⟨c640_i32, v118, c1_i32_104⟩
def k0_off16 (k0_t10 : Fin k0_t10_loop.trips) : Fin 1 → Nat :=
  let c640_i32 : BitVec 32 := 640#32
  let c1_i32_104 : BitVec 32 := 1#32
  let arg9 : BitVec 32 := Scf.iv c640_i32 c1_i32_104 k0_t10
  let v377 : Index := Scalar.indexCast arg9
  ![v377.toNat]
def k0_off17 (k0_t10 : Fin k0_t10_loop.trips) : Fin 2 → Nat :=
  let c640_i32 : BitVec 32 := 640#32
  let c1_i32_104 : BitVec 32 := 1#32
  let arg9 : BitVec 32 := Scf.iv c640_i32 c1_i32_104 k0_t10
  let c0_i32_374 : BitVec 32 := 0#32
  ![arg9.toNat, 0]
def k0_off18 (v378 : BitVec 32) : Fin 2 → Nat :=
  let c0_i32_375 : BitVec 32 := 0#32
  ![v378.toNat, 0]

def k0_chk6 (v378 : BitVec 32) : Prop :=
  (∀ a, (k0_off18 v378) a + S1x1024.size a ≤ S8192x1024.size a)
theorem k0_off18_inb : ∀ (v378 : BitVec 32) (k0_hw6 : k0_chk6 v378), ∀ a, (k0_off18 v378) a + S1x1024.size a ≤ S8192x1024.size a := fun v378 k0_hw6 => k0_hw6

@[reducible] def k0_t11_loop : Scf.Loop 32 :=
  let c0_i32_106 : BitVec 32 := 0#32
  let c128_i32_107 : BitVec 32 := 128#32
  let v119 : BitVec 32 := Scalar.addi c0_i32_106 c128_i32_107
  let c1_i32_108 : BitVec 32 := 1#32
  ⟨c0_i32_106, v119, c1_i32_108⟩
def k0_dev6 (d0 : Dev nD) : Nat :=
  let c0_i32_119 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_118 : BitVec 32 := 16#32
  let v131 : BitVec 32 := Scalar.muli v9 c16_i32_118
  let v132 : BitVec 32 := Scalar.addi c0_i32_119 v131
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_120 : BitVec 32 := 4#32
  let v133 : BitVec 32 := Scalar.muli v5 c4_i32_120
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v135 : BitVec 32 := Scalar.muli v8 c1_i32_121
  let v136 : BitVec 32 := Scalar.addi v134 v135
  v136.toNat
@[reducible] def k0_t12_loop : Scf.Loop 32 :=
  let c768_i32 : BitVec 32 := 768#32
  let c128_i32_126 : BitVec 32 := 128#32
  let v143 : BitVec 32 := Scalar.addi c768_i32 c128_i32_126
  let c1_i32_127 : BitVec 32 := 1#32
  ⟨c768_i32, v143, c1_i32_127⟩
def k0_off19 (k0_t12 : Fin k0_t12_loop.trips) : Fin 1 → Nat :=
  let c768_i32 : BitVec 32 := 768#32
  let c1_i32_127 : BitVec 32 := 1#32
  let arg9 : BitVec 32 := Scf.iv c768_i32 c1_i32_127 k0_t12
  let v377 : Index := Scalar.indexCast arg9
  ![v377.toNat]
def k0_off20 (k0_t12 : Fin k0_t12_loop.trips) : Fin 2 → Nat :=
  let c768_i32 : BitVec 32 := 768#32
  let c1_i32_127 : BitVec 32 := 1#32
  let arg9 : BitVec 32 := Scf.iv c768_i32 c1_i32_127 k0_t12
  let c0_i32_374 : BitVec 32 := 0#32
  ![arg9.toNat, 0]
def k0_off21 (v378 : BitVec 32) : Fin 2 → Nat :=
  let c0_i32_375 : BitVec 32 := 0#32
  ![v378.toNat, 0]

def k0_chk7 (v378 : BitVec 32) : Prop :=
  (∀ a, (k0_off21 v378) a + S1x1024.size a ≤ S8192x1024.size a)
theorem k0_off21_inb : ∀ (v378 : BitVec 32) (k0_hw7 : k0_chk7 v378), ∀ a, (k0_off21 v378) a + S1x1024.size a ≤ S8192x1024.size a := fun v378 k0_hw7 => k0_hw7

@[reducible] def k0_t13_loop : Scf.Loop 32 :=
  let c0_i32_129 : BitVec 32 := 0#32
  let c128_i32_130 : BitVec 32 := 128#32
  let v144 : BitVec 32 := Scalar.addi c0_i32_129 c128_i32_130
  let c1_i32_131 : BitVec 32 := 1#32
  ⟨c0_i32_129, v144, c1_i32_131⟩
def k0_dev7 (d0 : Dev nD) : Nat :=
  let c0_i32_141 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_140 : BitVec 32 := 16#32
  let v156 : BitVec 32 := Scalar.muli v9 c16_i32_140
  let v157 : BitVec 32 := Scalar.addi c0_i32_141 v156
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_142 : BitVec 32 := 4#32
  let v158 : BitVec 32 := Scalar.muli v5 c4_i32_142
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v160 : BitVec 32 := Scalar.muli v8 c1_i32_143
  let v161 : BitVec 32 := Scalar.addi v159 v160
  v161.toNat
@[reducible] def k0_t14_loop : Scf.Loop 32 :=
  let c896_i32 : BitVec 32 := 896#32
  let c128_i32_148 : BitVec 32 := 128#32
  let v168 : BitVec 32 := Scalar.addi c896_i32 c128_i32_148
  let c1_i32_149 : BitVec 32 := 1#32
  ⟨c896_i32, v168, c1_i32_149⟩
def k0_off22 (k0_t14 : Fin k0_t14_loop.trips) : Fin 1 → Nat :=
  let c896_i32 : BitVec 32 := 896#32
  let c1_i32_149 : BitVec 32 := 1#32
  let arg9 : BitVec 32 := Scf.iv c896_i32 c1_i32_149 k0_t14
  let v377 : Index := Scalar.indexCast arg9
  ![v377.toNat]
def k0_off23 (k0_t14 : Fin k0_t14_loop.trips) : Fin 2 → Nat :=
  let c896_i32 : BitVec 32 := 896#32
  let c1_i32_149 : BitVec 32 := 1#32
  let arg9 : BitVec 32 := Scf.iv c896_i32 c1_i32_149 k0_t14
  let c0_i32_374 : BitVec 32 := 0#32
  ![arg9.toNat, 0]
def k0_off24 (v378 : BitVec 32) : Fin 2 → Nat :=
  let c0_i32_375 : BitVec 32 := 0#32
  ![v378.toNat, 0]

def k0_chk8 (v378 : BitVec 32) : Prop :=
  (∀ a, (k0_off24 v378) a + S1x1024.size a ≤ S8192x1024.size a)
theorem k0_off24_inb : ∀ (v378 : BitVec 32) (k0_hw8 : k0_chk8 v378), ∀ a, (k0_off24 v378) a + S1x1024.size a ≤ S8192x1024.size a := fun v378 k0_hw8 => k0_hw8

@[reducible] def k0_t15_loop : Scf.Loop 32 :=
  let c0_i32_151 : BitVec 32 := 0#32
  let c128_i32_152 : BitVec 32 := 128#32
  let v169 : BitVec 32 := Scalar.addi c0_i32_151 c128_i32_152
  let c1_i32_153 : BitVec 32 := 1#32
  ⟨c0_i32_151, v169, c1_i32_153⟩
def k0_dev8 (d0 : Dev nD) : Nat :=
  let c0_i32_163 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_162 : BitVec 32 := 16#32
  let v181 : BitVec 32 := Scalar.muli v9 c16_i32_162
  let v182 : BitVec 32 := Scalar.addi c0_i32_163 v181
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v183 : BitVec 32 := Scalar.muli v5 c4_i32_164
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v185 : BitVec 32 := Scalar.muli v8 c1_i32_165
  let v186 : BitVec 32 := Scalar.addi v184 v185
  v186.toNat
@[reducible] def k0_t16_loop : Scf.Loop 32 :=
  let c0_i32_170 : BitVec 32 := 0#32
  let c128_i32_171 : BitVec 32 := 128#32
  let v193 : BitVec 32 := Scalar.addi c0_i32_170 c128_i32_171
  let c1_i32_172 : BitVec 32 := 1#32
  ⟨c0_i32_170, v193, c1_i32_172⟩
def k0_dev9 (d0 : Dev nD) : Nat :=
  let c0_i32_182 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_181 : BitVec 32 := 16#32
  let v205 : BitVec 32 := Scalar.muli v9 c16_i32_181
  let v206 : BitVec 32 := Scalar.addi c0_i32_182 v205
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_183 : BitVec 32 := 4#32
  let v207 : BitVec 32 := Scalar.muli v5 c4_i32_183
  let v208 : BitVec 32 := Scalar.addi v206 v207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v209 : BitVec 32 := Scalar.muli v8 c1_i32_184
  let v210 : BitVec 32 := Scalar.addi v208 v209
  v210.toNat
abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024 : Shape := ⟨1, ![1024]⟩
abbrev S16384x1024 : Shape := ⟨2, ![16384, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024, .i32⟩
  | .hbm, ⟨1, _⟩ => ⟨S16384x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.KernelIdeal.Steps.lean ====
/- The kernel's body as a sequence of steps over a chunk index.

   The body is printed as fourteen windows of straight-line code and sixteen counted loops. Here it is shown to be a
   sequence of five kinds of step, each over a chunk `j : Fin 8` of 128 rows: `issue j` starts the row copies of a
   chunk, `chunk d j` waits for them, scales the rows by the mask, rounds them and sends them to the partner,
   `recv j` waits for the partner's rows and adds them, `waitSend j` waits for the departure of a chunk. -/
module

public import proofs.«01_k».proof.Proof.Gen.KernelIdeal.Skeleton

@[expose] public section

set_option maxRecDepth 16384

noncomputable section

namespace Cert.KernelIdeal.Steps

open Cert.KernelIdeal Cert.KernelIdeal.Gen
open Idealize.ShloMosaic Idealize.SL.Sem

variable {F : FTy → Type} [FloatOps F]

/-- A program of the kernel's TensorCore. -/
abbrev Pr (F : FTy → Type) := Prog (TpuEff nD τ sig (Elt F) Λ₀ .tc) PUnit.{1}

/-- Where chunk `j`'s rows start in a buffer of rows. -/
abbrev ofs (j : Fin 8) : Fin 2 → ℕ := ![128 * j.val, 0]

theorem ofs_inb (j : Fin 8) : ∀ a, ofs j a + S128x1024.size a ≤ S1024x1024.size a := by
  revert j; decide
theorem ofs_inb_mask (j : Fin 8) : ∀ a, ofs j a + S128x1.size a ≤ S1024x1.size a := by
  revert j; decide
theorem ofs_inb_row (j : Fin 8) : ∀ a, ofs j a + S1x1024.size a ≤ S1024x1024.size a := by
  revert j; decide
theorem sem_inb (j : Fin 8) : ∀ a, (![j.val] : Fin 1 → ℕ) a + S1.size a ≤ S8.size a := by
  revert j; decide

/-- Chunk `j`'s rows of a 1024-row buffer. -/
abbrev rowsR (j : Fin 8) : Rect S1024x1024 := Rect.unit (s := S1024x1024) (ofs j) S128x1024.size (ofs_inb j)
/-- Chunk `j`'s rows of the mask. -/
abbrev maskR (j : Fin 8) : Rect S1024x1 := Rect.unit (s := S1024x1) (ofs j) S128x1.size (ofs_inb_mask j)

theorem rows_words (j : Fin 8) : (rowsR j).WholeWords (EltTy.packing .bf16) :=
  match j with
  | 0 => wordsbf16_S1024x1024_S128x1024_0_0 | 1 => wordsbf16_S1024x1024_S128x1024_128_0
  | 2 => wordsbf16_S1024x1024_S128x1024_256_0 | 3 => wordsbf16_S1024x1024_S128x1024_384_0
  | 4 => wordsbf16_S1024x1024_S128x1024_512_0 | 5 => wordsbf16_S1024x1024_S128x1024_640_0
  | 6 => wordsbf16_S1024x1024_S128x1024_768_0 | 7 => wordsbf16_S1024x1024_S128x1024_896_0
theorem rows_packed (j : Fin 8) : (rowsR j).PackedRows (EltTy.packing .bf16) :=
  match j with
  | 0 => packedbf16_S1024x1024_S128x1024_0_0 | 1 => packedbf16_S1024x1024_S128x1024_128_0
  | 2 => packedbf16_S1024x1024_S128x1024_256_0 | 3 => packedbf16_S1024x1024_S128x1024_384_0
  | 4 => packedbf16_S1024x1024_S128x1024_512_0 | 5 => packedbf16_S1024x1024_S128x1024_640_0
  | 6 => packedbf16_S1024x1024_S128x1024_768_0 | 7 => packedbf16_S1024x1024_S128x1024_896_0

/-- The loop that starts chunk `j`'s row copies: its induction variable is the row. -/
@[reducible] def issueLoop (j : Fin 8) : Scf.Loop 32 :=
  ⟨BitVec.ofNat 32 (128 * j.val), Scalar.addi (BitVec.ofNat 32 (128 * j.val)) 128#32, 1#32⟩
theorem issueLoop_ok (j : Fin 8) : (issueLoop j).OK := by revert j; decide
theorem issueLoop_trips (j : Fin 8) : (issueLoop j).trips = 128 := by revert j; decide
/-- The loop that waits for a chunk's 128 row copies. -/
@[reducible] def drainLoop : Scf.Loop 32 := ⟨0#32, Scalar.addi 0#32 128#32, 1#32⟩
theorem drainLoop_ok : drainLoop.OK := by decide
theorem drainLoop_trips : drainLoop.trips = 128 := by decide

/-- The row trip `k` of chunk `j`'s issue loop copies. -/
abbrev row (j : Fin 8) (k : Fin (issueLoop j).trips) : BitVec 32 :=
  Scf.iv (BitVec.ofNat 32 (128 * j.val)) 1#32 k
theorem row_toNat (j : Fin 8) (k : Fin (issueLoop j).trips) : (row j k).toNat = 128 * j.val + k.val := by
  revert j; decide
theorem row_inb_ids (j : Fin 8) (k : Fin (issueLoop j).trips) :
    ∀ a, (![(Scalar.indexCast (row j k)).toNat] : Fin 1 → ℕ) a + S1.size a ≤ S1024.size a := by
  revert j; decide
theorem row_inb (j : Fin 8) (k : Fin (issueLoop j).trips) :
    ∀ a, (![(row j k).toNat, 0] : Fin 2 → ℕ) a + S1x1024.size a ≤ S1024x1024.size a := by
  revert j; decide

section Args

variable (arg0 : Memref sig .tc .smem S1024 .i32) (harg0 : arg0.IsWhole) (arg1 : Memref sig .tc .vmem S1024x1 .f32) (harg1 : arg1.IsWhole)
  (arg2 : Memref sig .tc .hbm S8192x1024 .f32) (harg2 : arg2.IsWhole) (arg3 : Memref sig .tc .vmem S1024x1024 .f32) (harg3 : arg3.IsWhole)
  (arg4 : Memref sig .tc .vmem S1024x1024 .bf16) (harg4 : arg4.IsWhole) (arg5 : Memref sig .tc .vmem S1024x1024 .bf16) (harg5 : arg5.IsWhole)
  (arg6 : DmaSems sig S8) (arg7 : DmaSems sig S8) (arg8 : DmaSems sig S8)

/-- Semaphore `j` of an array of eight. -/
abbrev semAt (a : DmaSems sig S8) (j : Fin 8) : DmaSem sig :=
  ((a.slice (Rect.unit (s := S8) ![j.val] S1.size (sem_inb j))).squeeze S_ squeezes_S1_S_).sem
/-- Chunk `j` of a 1024-row buffer of bf16. -/
abbrev rowsOf {e : EltTy} (a : Memref sig .tc .vmem S1024x1024 e) (j : Fin 8) : Memref sig .tc .vmem S128x1024 e :=
  a.slice (rowsR j) (fun _ => rfl)

/-- One trip of chunk `j`'s issue loop: read a row number, copy that row of the table to the row the trip names. -/
def issueTrip (j : Fin 8) : Fin (issueLoop j).trips → Unit → Prog (TpuEff nD τ sig (Elt F) Λ₀ .tc) Unit :=
  fun k _ => do
    let w : Elt F .i32 ← smemLoad arg0 (Rect.unit (s := S1024) ![(Scalar.indexCast (row j k)).toNat] S1.size (row_inb_ids j k)) numel1_S1 rfl
    have hw : k0_chk1 w := (← Prog.lift (TpuEff.assume (k0_chk1 w) (k0_chk1.dec w))).down
    Prog.lift (.enqueueDma (arg2.slice (Rect.unit (s := S8192x1024) (k0_off3 w) S1x1024.size (k0_off3_inb w hw)) (fun _ => rfl) : Memref sig .tc .hbm S1x1024 .f32)
      (.here (arg3.slice (Rect.unit (s := S1024x1024) ![(row j k).toNat, 0] S1x1024.size (row_inb j k)) (fun _ => rfl) : Memref sig .tc .vmem S1x1024 .f32))
      (.dma (semAt arg6 j)) (View.wordExact_bits rfl) (View.wordExact_bits rfl) ⟨Or.inl rfl, trivial⟩)
    pure ⟨⟩

/-- One trip of chunk `j`'s drain loop: wait for one row's credit. -/
def drainTrip (j : Fin 8) : Fin drainLoop.trips → Unit → Prog (TpuEff nD τ sig (Elt F) Λ₀ .tc) Unit :=
  fun _ _ => do
    Prog.lift (.waitDma2 (semAt arg6 j)
      (arg2.slice (Rect.unit (s := S8192x1024) ![0, 0] S1x1024.size inb_S8192x1024_S1x1024_0_0) (fun _ => rfl) : Memref sig .tc .hbm S1x1024 .f32)
      (arg3.slice (Rect.unit (s := S1024x1024) (ofs j) S1x1024.size (ofs_inb_row j)) (fun _ => rfl) : Memref sig .tc .vmem S1x1024 .f32)
      (View.wordExact_bits rfl) (View.wordExact_bits rfl))
    pure ⟨⟩

/-- Start the row copies of chunk `j`. -/
def issue (j : Fin 8) : Prog (TpuEff nD τ sig (Elt F) Λ₀ .tc) Unit :=
  Scf.Loop.for (issueLoop j) (issueLoop_ok j) () (issueTrip (F := F) arg0 arg2 arg3 arg6 j)
/-- Wait for the row copies of chunk `j`. -/
def drain (j : Fin 8) : Prog (TpuEff nD τ sig (Elt F) Λ₀ .tc) Unit :=
  Scf.Loop.for drainLoop drainLoop_ok () (drainTrip (F := F) arg2 arg3 arg6 j)

/-- Scale chunk `j` by the mask, in place, and leave its rounding in the buffer to send from. -/
def scale (j : Fin 8) : Pr F := do
  let x : Vec F S128x1024 .f32 ← Prog.lift (.load arg3 (rowsR j).toLoadRect (View.loadsAt_vmem h_S128x1024))
  let y : Vec F S128x1 .f32 ← Prog.lift (.load arg1 (maskR j).toLoadRect (View.loadsAt_vmem h_S128x1))
  let _ : Vec F S128x1024 .f32 ← Prog.lift (.load arg3 (rowsR j).toLoadRect (View.loadsAt_vmem h_S128x1024))
  Prog.lift (.store arg3 (rowsR j) (k0_pay5 x y) Finset.univ (View.stores_vmem_bits_univ h_S128x1024 rfl) (.inl rfl))
  let _ : Vec F S128x1024 .bf16 ← Prog.lift (.load arg4 (rowsR j).toLoadRect (View.loadsAt_vmem h_S128x1024))
  Prog.lift (.store arg4 (rowsR j) (k0_pay6 (k0_pay5 x y)) Finset.univ (View.stores_vmem h_S128x1024 (harg4.storeExact_slice rfl _ (rows_packed j)) (fun _ => rfl)) (.inl rfl))

/-- Send chunk `j` to the device with index `p`. -/
def send (p : Dev nD) (j : Fin 8) : Pr F :=
  Prog.lift (.enqueueDma (rowsOf arg4 j) (.remote (Dev.tc p) (rowsOf arg5 j) (.dma (semAt arg7 j))) (.dma (semAt arg8 j))
    (harg4.wordExact_slice rfl _ (rows_words j)) (harg5.wordExact_slice rfl _ (rows_words j)) ⟨⟨rfl, Or.inl rfl⟩, trivial⟩)

/-- Wait for the partner's chunk `j` and add it to the rows here. -/
def recv (j : Fin 8) : Pr F := do
  Prog.lift (.waitDma2 (semAt arg8 j) (rowsOf arg4 j) (rowsOf arg5 j)
    (harg4.wordExact_slice rfl _ (rows_words j)) (harg5.wordExact_slice rfl _ (rows_words j)))
  let x : Vec F S128x1024 .f32 ← Prog.lift (.load arg3 (rowsR j).toLoadRect (View.loadsAt_vmem h_S128x1024))
  let y : Vec F S128x1024 .bf16 ← Prog.lift (.load arg5 (rowsR j).toLoadRect (View.loadsAt_vmem h_S128x1024))
  let _ : Vec F S128x1024 .f32 ← Prog.lift (.load arg3 (rowsR j).toLoadRect (View.loadsAt_vmem h_S128x1024))
  Prog.lift (.store arg3 (rowsR j) (k0_pay20 x y) Finset.univ (View.stores_vmem_bits_univ h_S128x1024 rfl) (.inl rfl))

/-- Wait until chunk `j` has left. -/
def waitSend (j : Fin 8) : Pr F :=
  Prog.lift (.waitDma2 (semAt arg7 j) (rowsOf arg5 j) (rowsOf arg4 j)
    (harg5.wordExact_slice rfl _ (rows_words j)) (harg4.wordExact_slice rfl _ (rows_words j)))

/-- Chunk `j`'s step in the first pass: its rows are in, they are scaled, rounded and sent, and the chunk after next
    starts. -/
def chunk (p : Dev nD) (j : Fin 8) : Pr F := do
  drain (F := F) arg2 arg3 arg6 j
  scale (F := F) arg1 arg3 arg4 harg4 j
  send (F := F) arg4 harg4 arg5 harg5 arg7 arg8 p j
  if h : j.val + 2 < 8 then issue (F := F) arg0 arg2 arg3 arg6 ⟨j.val + 2, h⟩ else pure ⟨⟩

/-- A step for every chunk, in order. -/
def inOrder (f : Fin 8 → Pr F) : Pr F := do
  f 0; f 1; f 2; f 3; f 4; f 5; f 6; f 7

/-- The kernel's body, step by step: the barrier with the partner, the first two chunks' copies, then the three passes
    over the chunks. -/
def body : Pr F := do
  let d0 : Dev nD ← Prog.lift .deviceId
  semSignalWord (⟨k0_dev1 d0, k0_dev1_lt d0⟩ : Dev nD) (SemArray.scalar (sig.barrier 0 rfl) : Sems sig S_).sem 1#32
  semWaitWord (SemArray.scalar (sig.barrier 0 rfl) : Sems sig S_).sem 1#32
  issue (F := F) arg0 arg2 arg3 arg6 0
  issue (F := F) arg0 arg2 arg3 arg6 1
  inOrder fun j => chunk (F := F) arg0 arg1 arg2 arg3 arg4 harg4 arg5 harg5 arg6 arg7 arg8 (⟨k0_dev1 d0, k0_dev1_lt d0⟩ : Dev nD) j
  inOrder fun j => recv (F := F) arg3 arg4 harg4 arg5 harg5 arg8 j
  inOrder fun j => waitSend (F := F) arg4 harg4 arg5 harg5 arg7 j

/-! ## The printed body is that sequence -/

theorem t1_eq : k0_t1_body (F := F) arg0 harg0 arg1 harg1 arg2 harg2 arg3 harg3 arg4 harg4 arg5 harg5 arg6 arg7 arg8 = issueTrip (F := F) arg0 arg2 arg3 arg6 0 := rfl
theorem t2_eq : k0_t2_body (F := F) arg0 harg0 arg1 harg1 arg2 harg2 arg3 harg3 arg4 harg4 arg5 harg5 arg6 arg7 arg8 = issueTrip (F := F) arg0 arg2 arg3 arg6 1 := rfl
theorem t3_eq : k0_t3_body (F := F) arg0 harg0 arg1 harg1 arg2 harg2 arg3 harg3 arg4 harg4 arg5 harg5 arg6 arg7 arg8 = drainTrip (F := F) arg2 arg3 arg6 0 := rfl
theorem t4_eq (d0 : Dev nD) (v5 : BitVec 32) (v8 : BitVec 32) (v9 : BitVec 32) (v21 : FVec F S128x1024 .f32) (v24 : FVec F S128x1024 .f32) : k0_t4_body (F := F) arg0 harg0 arg1 harg1 arg2 harg2 arg3 harg3 arg4 harg4 arg5 harg5 arg6 arg7 arg8 d0 v5 v8 v9 v21 v24 = issueTrip (F := F) arg0 arg2 arg3 arg6 2 := rfl
theorem t5_eq (d0 : Dev nD) (v5 : BitVec 32) (v8 : BitVec 32) (v9 : BitVec 32) (v21 : FVec F S128x1024 .f32) (v24 : FVec F S128x1024 .f32) : k0_t5_body (F := F) arg0 harg0 arg1 harg1 arg2 harg2 arg3 harg3 arg4 harg4 arg5 harg5 arg6 arg7 arg8 d0 v5 v8 v9 v21 v24 = drainTrip (F := F) arg2 arg3 arg6 1 := rfl
theorem t6_eq (d0 : Dev nD) (v5 : BitVec 32) (v8 : BitVec 32) (v9 : BitVec 32) (v50 : FVec F S128x1024 .f32) : k0_t6_body (F := F) arg0 harg0 arg1 harg1 arg2 harg2 arg3 harg3 arg4 harg4 arg5 harg5 arg6 arg7 arg8 d0 v5 v8 v9 v50 = issueTrip (F := F) arg0 arg2 arg3 arg6 3 := rfl
theorem t7_eq (d0 : Dev nD) (v5 : BitVec 32) (v8 : BitVec 32) (v9 : BitVec 32) (v50 : FVec F S128x1024 .f32) : k0_t7_body (F := F) arg0 harg0 arg1 harg1 arg2 harg2 arg3 harg3 arg4 harg4 arg5 harg5 arg6 arg7 arg8 d0 v5 v8 v9 v50 = drainTrip (F := F) arg2 arg3 arg6 2 := rfl
theorem t8_eq (d0 : Dev nD) (v5 : BitVec 32) (v8 : BitVec 32) (v9 : BitVec 32) (v77 : FVec F S128x1024 .bf16) : k0_t8_body (F := F) arg0 harg0 arg1 harg1 arg2 harg2 arg3 harg3 arg4 harg4 arg5 harg5 arg6 arg7 arg8 d0 v5 v8 v9 v77 = issueTrip (F := F) arg0 arg2 arg3 arg6 4 := rfl
theorem t9_eq (d0 : Dev nD) (v5 : BitVec 32) (v8 : BitVec 32) (v9 : BitVec 32) (v77 : FVec F S128x1024 .bf16) : k0_t9_body (F := F) arg0 harg0 arg1 harg1 arg2 harg2 arg3 harg3 arg4 harg4 arg5 harg5 arg6 arg7 arg8 d0 v5 v8 v9 v77 = drainTrip (F := F) arg2 arg3 arg6 3 := rfl
theorem t10_eq (d0 : Dev nD) (v5 : BitVec 32) (v8 : BitVec 32) (v9 : BitVec 32) (c16_i32_95 : BitVec 32) : k0_t10_body (F := F) arg0 harg0 arg1 harg1 arg2 harg2 arg3 harg3 arg4 harg4 arg5 harg5 arg6 arg7 arg8 d0 v5 v8 v9 c16_i32_95 = issueTrip (F := F) arg0 arg2 arg3 arg6 5 := rfl
theorem t11_eq (d0 : Dev nD) (v5 : BitVec 32) (v8 : BitVec 32) (v9 : BitVec 32) (c16_i32_95 : BitVec 32) : k0_t11_body (F := F) arg0 harg0 arg1 harg1 arg2 harg2 arg3 harg3 arg4 harg4 arg5 harg5 arg6 arg7 arg8 d0 v5 v8 v9 c16_i32_95 = drainTrip (F := F) arg2 arg3 arg6 4 := rfl
theorem t12_eq (d0 : Dev nD) (v5 : BitVec 32) (v8 : BitVec 32) (v9 : BitVec 32) (v132 : BitVec 32) (v133 : BitVec 32) : k0_t12_body (F := F) arg0 harg0 arg1 harg1 arg2 harg2 arg3 harg3 arg4 harg4 arg5 harg5 arg6 arg7 arg8 d0 v5 v8 v9 v132 v133 = issueTrip (F := F) arg0 arg2 arg3 arg6 6 := rfl
theorem t13_eq (d0 : Dev nD) (v5 : BitVec 32) (v8 : BitVec 32) (v9 : BitVec 32) (v132 : BitVec 32) (v133 : BitVec 32) : k0_t13_body (F := F) arg0 harg0 arg1 harg1 arg2 harg2 arg3 harg3 arg4 harg4 arg5 harg5 arg6 arg7 arg8 d0 v5 v8 v9 v132 v133 = drainTrip (F := F) arg2 arg3 arg6 5 := rfl
theorem t14_eq (d0 : Dev nD) (v5 : BitVec 32) (v8 : BitVec 32) (v9 : BitVec 32) : k0_t14_body (F := F) arg0 harg0 arg1 harg1 arg2 harg2 arg3 harg3 arg4 harg4 arg5 harg5 arg6 arg7 arg8 d0 v5 v8 v9 = issueTrip (F := F) arg0 arg2 arg3 arg6 7 := rfl
theorem t15_eq (d0 : Dev nD) (v5 : BitVec 32) (v8 : BitVec 32) (v9 : BitVec 32) : k0_t15_body (F := F) arg0 harg0 arg1 harg1 arg2 harg2 arg3 harg3 arg4 harg4 arg5 harg5 arg6 arg7 arg8 d0 v5 v8 v9 = drainTrip (F := F) arg2 arg3 arg6 6 := rfl
theorem t16_eq (d0 : Dev nD) (v5 : BitVec 32) (v8 : BitVec 32) (v9 : BitVec 32) : k0_t16_body (F := F) arg0 harg0 arg1 harg1 arg2 harg2 arg3 harg3 arg4 harg4 arg5 harg5 arg6 arg7 arg8 d0 v5 v8 v9 = drainTrip (F := F) arg2 arg3 arg6 7 := rfl

set_option maxHeartbeats 4000000 in
set_option maxRecDepth 65536 in
/-- The printed body is the sequence of steps. -/
theorem body_eq : cc0_body (F := F) arg0 harg0 arg1 harg1 arg2 harg2 arg3 harg3 arg4 harg4 arg5 harg5 arg6 arg7 arg8
    = body (F := F) arg0 arg1 arg2 arg3 arg4 harg4 arg5 harg5 arg6 arg7 arg8 := by
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel
  simp only [t1_eq, t2_eq, t3_eq, t4_eq, t5_eq, t6_eq, t7_eq, t8_eq, t9_eq, t10_eq, t11_eq, t12_eq, t13_eq, t14_eq, t15_eq, t16_eq]
  unfold body inOrder chunk recv waitSend send scale issue drain
  simp only [bind_assoc, pure_bind]
  rfl

end Args

end Cert.KernelIdeal.Steps

end
-- ==== Proof.KernelIdeal.Protocol.lean ====
/- The protocol between a device and its partner, and what the buffers hold.

   Device `c` and device `pr c` differ in the first mesh coordinate alone. Each tells the other, on its barrier
   semaphore, that its receive buffer may be written; each sends its eight chunks of 128 scaled rows into the other's
   receive buffer, chunk `j` on semaphores of its own. So every device has one barrier cell, eight send cells and eight
   receive cells, each with a single round and a single duty:

   * barrier cell of `c`: paid by the partner; carries the partner's receive buffer, chunk by chunk, at any contents,
     with the knowledge that the partner's receive cells stand at their first round;
   * receive cell `j` of `c`: paid by the partner's copy; carries chunk `j` of `c`'s receive buffer at what the
     partner sent;
   * send cell `j` of `c`: paid by `c`'s own copy; carries chunk `j` of `c`'s send buffer back.

   The eight gather semaphores are used by local copies only. -/
module

public import proofs.«01_k».proof.Proof.KernelIdeal.Steps
public import Idealize.ShloMosaic.Lib.Pipeline.Regions
public import Idealize.ShloMosaic.Lib.Pipeline.Kit
public import Idealize.ShloMosaic.Lib.Rounds
public import Idealize.ShloMosaic.Lib.Batch
public import Idealize.ShloMosaic.Lib.Ring
public import Idealize.ShloMosaic.Lib.Tactic

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds, this protocol's rounds, and counters for the local copies. -/
abbrev UU : Type := UR sig nD τ × (UR sig nD τ × Counters)

local notation "𝕄" => MT nD τ sig Unit (Elt F) ℕ UU ℕ

abbrev EP : Emb (UR sig nD τ) (MT nD τ sig Unit (Elt F) ℕ UU ℕ) := embL
/-- The protocol's rounds inside the ghost state. -/
def ER : Emb (UR sig nD τ) (MT nD τ sig Unit (Elt F) ℕ UU ℕ) :=
  (Emb.inl : Emb (UR sig nD τ) (UR sig nD τ × Counters)).trans embR
instance ER_lands : (ER (F := F)).LandsIn (upEmb : UEmb _ 𝕄) := by unfold ER; infer_instance

abbrev EC : UEmb Counters (MT nD τ sig Unit (Elt F) ℕ UU ℕ) := countersEmb (U := UU)

/-! ## The partner -/

/-- The device the body addresses: the same mesh position with the first coordinate flipped. -/
def pr (c : Dev nD) : Dev nD := ⟨k0_dev1 c, k0_dev1_lt c⟩
theorem pr_pr (c : Dev nD) : pr (pr c) = c := by revert c; decide
theorem pr_ne (c : Dev nD) : pr c ≠ c := by revert c; decide
theorem pr_eq (c : Dev nD) : (pr c).val = (1 - c.val / 16) * 16 + c.val % 16 := by revert c; decide
/-- The pairing as a bijection of the devices. -/
def prEquiv : Dev nD ≃ Dev nD := ⟨pr, pr, pr_pr, pr_pr⟩

/-! ## What the buffers hold -/

/-- What a device's kernel reads: the row numbers, the mask and its half of the table. -/
structure Ins (F : FTy → Type) where
  ids : Dev nD → S1024.Idx → Elt F .i32
  msk : Dev nD → S1024x1.Idx → Elt F .f32
  tab : Dev nD → S8192x1024.Idx → Elt F .f32

/-- The table row a row number names. -/
def rowNo (w : BitVec 32) : Fin 8192 := ⟨min w.toNat 8191, by omega⟩
/-- The table index of a row and a column. -/
def tabIx (r : Fin 8192) (y : Fin 1024) : S8192x1024.Idx := fun | (0 : Fin 2) => r | (1 : Fin 2) => y
/-- The index of a row number. -/
def idIx (r : Fin 1024) : S1024.Idx := fun | (0 : Fin 1) => r
/-- The index of a row's mask entry. -/
def mskIx (r : Fin 1024) : S1024x1.Idx := fun | (0 : Fin 2) => r | (1 : Fin 2) => (0 : Fin 1)

section Contents

variable (I : Ins F) (c : Dev nD)

/-- The gathered rows: row `i` is the table row the `i`-th row number names. -/
def gath : S1024x1024.Idx → Elt F .f32 := fun i => I.tab c (tabIx (rowNo (I.ids c (idIx (i 0)))) (i 1))
/-- The gathered rows, each scaled by its mask entry. -/
def scaled : S1024x1024.Idx → Elt F .f32 := fun i => FloatOps.mulf (gath I c i) (I.msk c (mskIx (i 0)))
/-- What is sent: the scaled rows, rounded. -/
def rounded : S1024x1024.Idx → Elt F .bf16 := fun i => FloatOps.truncf .bf16 bitsLt_bf16_f32 (scaled I c i)
/-- The result: the scaled rows plus what the partner sent. -/
def result : S1024x1024.Idx → Elt F .f32 :=
  fun i => FloatOps.addf (scaled I c i) (FloatOps.extf .f32 bitsLt_bf16_f32 (rounded I (pr c) i))

end Contents

/-! ## The buffers and their chunks -/

abbrev idsM : Memref sig .tc .smem S1024 .i32 := Memref.whole cc0_stg0_0
abbrev mskM : Memref sig .tc .vmem S1024x1 .f32 := Memref.whole cc0_stg1_0
abbrev tabM : Memref sig .tc .hbm S8192x1024 .f32 := Memref.whole main_arg1
abbrev outM : Memref sig .tc .vmem S1024x1024 .f32 := Memref.whole cc0_stg2_0
abbrev sndM : Memref sig .tc .vmem S1024x1024 .bf16 := Memref.whole cc0_scratch0
abbrev rcvM : Memref sig .tc .vmem S1024x1024 .bf16 := Memref.whole cc0_scratch1

section Pts

variable (c : Dev nD) (j : Fin 8)

/-- Elements `S` of the rows buffer at contents `f`. -/
abbrev outPts (S : Finset S1024x1024.Idx) (f : S1024x1024.Idx → Elt F .f32) : sProp 𝕄 :=
  (outM : Memref sig .tc .vmem S1024x1024 .f32).view.loc (c : Thread nD τ) ↦[S]{fullShare} f
/-- Chunk `j` of the send buffer at contents `f`. -/
abbrev sndPts (f : S1024x1024.Idx → Elt F .bf16) : sProp 𝕄 :=
  (rowsOf sndM j).view.loc (c : Thread nD τ) ↦[(rowsOf sndM j).view.set]{fullShare} f
/-- Chunk `j` of the receive buffer at contents `f`. -/
abbrev rcvPts (f : S1024x1024.Idx → Elt F .bf16) : sProp 𝕄 :=
  (rowsOf rcvM j).view.loc (c : Thread nD τ) ↦[(rowsOf rcvM j).view.set]{fullShare} f

end Pts

/-! ## The cells -/

abbrev barS : Sem sig := (SemArray.scalar (sig.barrier 0 rfl) : Sems sig S_).sem
/-- The gather, send and receive semaphores of a chunk. -/
def gathS (j : Fin 8) : DmaSem sig := semAt cc0_scratch2 j
def sendS (j : Fin 8) : DmaSem sig := semAt cc0_scratch3 j
def recvS (j : Fin 8) : DmaSem sig := semAt cc0_scratch4 j

theorem gathS_val (j : Fin 8) : (gathS j).val = 3 + j.val := by revert j; decide
theorem sendS_val (j : Fin 8) : (sendS j).val = 11 + j.val := by revert j; decide
theorem recvS_val (j : Fin 8) : (recvS j).val = 19 + j.val := by revert j; decide

abbrev barCell (c : Dev nD) : GSem nD τ sig := ((c : Thread nD τ), .reg barS)
abbrev gathCell (c : Dev nD) (j : Fin 8) : GSem nD τ sig := ((c : Thread nD τ), .dma (gathS j))
abbrev sendCell (c : Dev nD) (j : Fin 8) : GSem nD τ sig := ((c : Thread nD τ), .dma (sendS j))
abbrev recvCell (c : Dev nD) (j : Fin 8) : GSem nD τ sig := ((c : Thread nD τ), .dma (recvS j))

/-- The chunk a semaphore of an array starting at cell `b` belongs to. -/
def chunkOf (b : ℕ) (s : DmaSem sig) : Fin 8 := ⟨(s.val - b) % 8, Nat.mod_lt _ (by decide)⟩
theorem chunkOf_send (j : Fin 8) : chunkOf 11 (sendS j) = j := by revert j; decide
theorem chunkOf_recv (j : Fin 8) : chunkOf 19 (recvS j) = j := by revert j; decide

/-- A chunk's units on a send or receive cell. -/
abbrev N : ℕ := (rowsOf rcvM 0).view.dmaCredit
theorem N_pos : 0 < N := View.dmaCredit_pos _ (by decide)
theorem rcv_credit (j : Fin 8) : (rowsOf rcvM j).view.dmaCredit = N := rfl
theorem snd_credit (j : Fin 8) : (rowsOf sndM j).view.dmaCredit = N := rfl

/-! ## The schedule -/

section Schedule

variable (I : Ins F)

/-- Paid to device `c`'s barrier cell by its partner: the partner's receive buffer, and that the partner's receive cells
    stand at their first round. -/
def barPay (c : Dev nD) : sProp 𝕄 :=
  bigSep Finset.univ fun j : Fin 8 => iprop((∃ f, rcvPts (pr c) j f) ∗ reached ER (recvCell (pr c) j) 0)
/-- Paid to device `c`'s receive cell `j` by the partner's copy: the chunk at what the partner sent. -/
def recvPay (c : Dev nD) (j : Fin 8) : sProp 𝕄 := rcvPts c j (rounded I (pr c))
/-- Paid to device `c`'s send cell `j` by its own copy: the chunk it sent from. -/
def sendPay (c : Dev nD) (j : Fin 8) : sProp 𝕄 := sndPts c j (rounded I c)

/-- What a cell's duty carries. -/
def pay (c : Dev nD) : SemLoc sig → sProp 𝕄
  | .reg s => barPay c
  | .dma s => if 19 ≤ s.val then recvPay I c (chunkOf 19 s) else sendPay I c (chunkOf 11 s)

/-- The cells of the protocol: the barrier cell, the send and the receive cells. -/
def IsTalk (s : SemLoc sig) : Bool := match s with
  | .reg s => s = barS
  | .dma s => 11 ≤ s.val

/-- One round, one duty on each cell of the protocol. -/
def sched : Rounds.Schedule (GSem nD τ sig) Unit 𝕄 where
  duties g r := if r = 0 ∧ g.1.2 = .tc ∧ IsTalk g.2 then {()} else ∅
  unitless _ := False
  amount g _ _ := if g.2 = .reg barS then 1 else N
  payload g r _ := pay I g.1.1 g.2
  amount_pos g _ _ _ := by
    by_cases h : g.2 = .reg barS
    · rw [if_pos h]; exact Nat.one_pos
    · rw [if_neg h]; exact N_pos

instance sched_storable (g : GSem nD τ sig) (r : ℕ) (d : Unit) :
    BI.Storable (upEmb : UEmb _ 𝕄) ((sched I).payload g r d) := by
  show BI.Storable upEmb (pay I g.1.1 g.2)
  unfold pay barPay recvPay sendPay
  (repeat' split) <;> infer_instance

variable (c : Dev nD) (j : Fin 8)

theorem send_ne_bar : (SemLoc.dma (sendS j) : SemLoc sig) ≠ .reg barS := fun h => by cases h
theorem recv_ne_bar : (SemLoc.dma (recvS j) : SemLoc sig) ≠ .reg barS := fun h => by cases h

theorem duties_bar : (sched I).duties (barCell c) 0 = {()} := by dsimp only [sched]; exact if_pos ⟨rfl, rfl, by decide⟩
theorem duties_send : (sched I).duties (sendCell c j) 0 = {()} := by
  dsimp only [sched]; exact if_pos ⟨rfl, rfl, by revert j; decide⟩
theorem duties_recv : (sched I).duties (recvCell c j) 0 = {()} := by
  dsimp only [sched]; exact if_pos ⟨rfl, rfl, by revert j; decide⟩
theorem duties_later (g : GSem nD τ sig) : ∀ r, 1 ≤ r → (sched I).duties g r = ∅ :=
  fun r hr => by dsimp only [sched]; rw [if_neg (fun h => by omega)]

theorem amount_bar (u : Unit) : (sched I).amount (barCell c) 0 u = 1 := by dsimp only [sched]; exact if_pos rfl
theorem amount_send (u : Unit) : (sched I).amount (sendCell c j) 0 u = N := by
  dsimp only [sched]; exact if_neg (send_ne_bar j)
theorem amount_recv (u : Unit) : (sched I).amount (recvCell c j) 0 u = N := by
  dsimp only [sched]; exact if_neg (recv_ne_bar j)

theorem expect_bar : (sched I).expect (barCell c) 0 = 1 := by
  unfold Schedule.expect Schedule.amountOf; rw [duties_bar, Finset.sum_singleton, amount_bar]
theorem expect_send : (sched I).expect (sendCell c j) 0 = N := by
  unfold Schedule.expect Schedule.amountOf; rw [duties_send, Finset.sum_singleton, amount_send]
theorem expect_recv : (sched I).expect (recvCell c j) 0 = N := by
  unfold Schedule.expect Schedule.amountOf; rw [duties_recv, Finset.sum_singleton, amount_recv]

theorem payload_bar (u : Unit) : (sched I).payload (barCell c) 0 u = barPay c := rfl
theorem payload_send (u : Unit) : (sched I).payload (sendCell c j) 0 u = sendPay I c j := by
  show pay I c (.dma (sendS j)) = _
  dsimp only [pay]
  rw [if_neg (by rw [sendS_val]; omega), chunkOf_send]
theorem payload_recv (u : Unit) : (sched I).payload (recvCell c j) 0 u = recvPay I c j := by
  show pay I c (.dma (recvS j)) = _
  dsimp only [pay]
  rw [if_pos (by rw [recvS_val]; omega), chunkOf_recv]

theorem rest_bar : bigSep ((sched I).duties (barCell c) 0 \ ∅) (fun u => (sched I).payload (barCell c) 0 u) = barPay c := by
  rw [Finset.sdiff_empty, duties_bar, bigSep_singleton, payload_bar]
theorem rest_send : bigSep ((sched I).duties (sendCell c j) 0 \ ∅) (fun u => (sched I).payload (sendCell c j) 0 u) = sendPay I c j := by
  rw [Finset.sdiff_empty, duties_send, bigSep_singleton, payload_send]
theorem rest_recv : bigSep ((sched I).duties (recvCell c j) 0 \ ∅) (fun u => (sched I).payload (recvCell c j) 0 u) = recvPay I c j := by
  rw [Finset.sdiff_empty, duties_recv, bigSep_singleton, payload_recv]

/-- A cell whose one round is over gives its counter back, at zero. -/
theorem close (κ : ℕ) (g : GSem nD τ sig) :
    iprop(cellInv ER (sched I) κ g ∗ atPos ER g (0 + 1) ∅ 0) ⊢ (|={Set.univ}=> semVal g 0 : sProp 𝕄) :=
  Rounds.cell_close ER (sched I) (Set.mem_univ κ) id (duties_later I g)

end Schedule

/-! ## What a device owes, and the levels -/

/-- The credits a device still owes its partner's receive cells, from chunk `k` on. -/
def owed (c : Dev nD) (k : ℕ) : CellTallies nD τ sig Unit :=
  ∑ j ∈ Ring.rangeSet 8 k 8, tallyAt (recvCell (pr c) j) () N
/-- At launch: every chunk's credit, and the unit for the partner's barrier cell. -/
def O₀ (c : Dev nD) : CellTallies nD τ sig Unit := owed c 0 + tallyAt (barCell (pr c)) () 1

theorem owed_end (c : Dev nD) : owed c 8 = 0 := by
  unfold owed; rw [Ring.rangeSet_empty le_rfl, Finset.sum_empty]
/-- Chunk `j`'s credit is the first of those owed from `j` on. -/
theorem owed_succ (c : Dev nD) (j : Fin 8) : owed c j.val = owed c (j.val + 1) + tallyAt (recvCell (pr c) j) () N := by
  unfold owed
  rw [Ring.rangeSet_head (NB := 8) j.isLt j.isLt, Finset.sum_insert (Ring.head_not_mem_rangeSet j.isLt), add_comm]

theorem owed_pos {c : Dev nD} {k : ℕ} {g : GSem nD τ sig} {u : Unit} (h : 0 < owed c k g u) : ∃ j, g = recvCell (pr c) j := by
  unfold owed at h
  by_contra hne
  push Not at hne
  have h0 : (∑ j ∈ Ring.rangeSet 8 k 8, tallyAt (recvCell (pr c) j) () N : CellTallies nD τ sig Unit) g u = 0 := by
    rw [Finset.sum_apply, Finsupp.finset_sum_apply]
    refine Finset.sum_eq_zero fun j _ => ?_
    rw [tallyAt_apply, if_neg (fun hg => hne j hg.1)]
  omega

def L (g : GSem nD τ sig) : Finset Unit := if g.1.2 = .tc then {()} else ∅
/-- Receive cells stand above the barrier cells, these above the rest. -/
def lvl : SemLoc sig → ℕ
  | .reg _ => 1
  | .dma s => if 19 ≤ s.val then 2 else 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl
theorem lvl_recv (j : Fin 8) : lvl (.dma (recvS j)) = 2 := by revert j; decide
theorem lvl_gath (j : Fin 8) : lvl (.dma (gathS j)) = 0 := by revert j; decide

/-- A device may wait on a cell below the receive cells while it owes receive credits. -/
theorem mayWait (c : Dev nD) (k : ℕ) (sm : SemLoc sig) (h : lvl sm ≤ 1) :
    (levAts L lv : sProp 𝕄) ⊢ MayWait (c : Thread nD τ) sm () (owed c k) :=
  MayOwe.of_cut (L := L) (lev := lv) 1 (fun p hp => by rw [Finset.mem_singleton.mp hp, L_tc]; exact Finset.mem_singleton_self _)
    (fun g u hg => by obtain ⟨j, rfl⟩ := owed_pos hg; rw [L_tc]; exact Finset.mem_singleton_self _)
    (fun p hp => by rw [Finset.mem_singleton.mp hp]; exact h)
    (fun g u hg => by obtain ⟨j, rfl⟩ := owed_pos hg; show 1 < lvl (.dma (recvS j)); rw [lvl_recv]; decide)

end Cert.KernelIdeal.Steps

end
-- ==== Proof.KernelIdeal.Gather.lean ====
/- The gather of one chunk: 128 row copies started on one semaphore, then 128 waits.

   The copies of a chunk are one batch. Each reads one row of the table under a read token of its own and delivers one
   row of the rows buffer at its gathered contents. The last of the waits hands every row over. -/
module

public import proofs.«01_k».proof.Proof.KernelIdeal.Protocol

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The copies of a chunk. -/
abbrev nRow (j : Fin 8) : ℕ := (issueLoop j).trips

/-- The row of the rows buffer the `k`-th copy of chunk `j` fills. -/
def rowIx (j : Fin 8) (k : Fin (nRow j)) : Fin 1024 :=
  ⟨128 * j.val + k.val, by have := k.isLt; have h := issueLoop_trips j; have := j.isLt; unfold nRow at *; omega⟩

/-- Table row `w`. -/
def srcM (w : BitVec 32) (hw : k0_chk1 w) : Memref sig .tc .hbm S1x1024 .f32 :=
  tabM.slice (Rect.unit (s := S8192x1024) (k0_off3 w) S1x1024.size (k0_off3_inb w hw)) (fun _ => rfl)
/-- The row of the rows buffer the `k`-th copy of chunk `j` fills. -/
def dstM (j : Fin 8) (k : Fin (nRow j)) : Memref sig .tc .vmem S1x1024 .f32 :=
  outM.slice (Rect.unit (s := S1024x1024) ![(row j k).toNat, 0] S1x1024.size (row_inb j k)) (fun _ => rfl)

/-- One row's units on a gather cell. -/
abbrev NR : ℕ := (outM.slice (Rect.unit (s := S1024x1024) (ofs 0) S1x1024.size (ofs_inb_row 0)) (fun _ => rfl) : Memref sig .tc .vmem S1x1024 .f32).view.dmaCredit
theorem NR_pos : 0 < NR := View.dmaCredit_pos _ (by decide)
theorem dst_amount (j : Fin 8) (k : Fin (nRow j)) : (dstM j k).view.amount (.dma (gathS j)) = NR := rfl
theorem drain_credit (j : Fin 8) :
    (outM.slice (Rect.unit (s := S1024x1024) (ofs j) S1x1024.size (ofs_inb_row j)) (fun _ => rfl) : Memref sig .tc .vmem S1x1024 .f32).view.dmaCredit = NR := rfl

/-! ## Rows and chunks as sets of elements -/

/-- The elements of the row the `k`-th copy of chunk `j` fills. -/
def rowSet (j : Fin 8) (k : Fin (nRow j)) : Finset S1024x1024.Idx :=
  (Rect.unit (s := S1024x1024) ![(row j k).toNat, 0] S1x1024.size (row_inb j k)).set
theorem dst_set (j : Fin 8) (k : Fin (nRow j)) : (dstM j k).view.set = rowSet j k := by
  unfold dstM; exact View.set_slice_whole _ _
/-- The elements of chunk `j`. -/
def chunkSet (j : Fin 8) : Finset S1024x1024.Idx := (rowsR j).set

theorem mem_row (j : Fin 8) (k : Fin (nRow j)) (y : S1024x1024.Idx) : y ∈ rowSet j k ↔ (y 0).val = 128 * j.val + k.val := by
  unfold rowSet
  rw [Rect.mem_set_unit]
  have h1 : (y 1).val < 1024 := (y 1).isLt
  have h2 := row_toNat j k
  constructor
  · intro H; have a0 : (row j k).toNat ≤ (y 0).val ∧ (y 0).val < (row j k).toNat + 1 := H 0; omega
  · intro H a; fin_cases a
    · show (row j k).toNat ≤ (y 0).val ∧ (y 0).val < (row j k).toNat + 1; omega
    · show 0 ≤ (y 1).val ∧ (y 1).val < 0 + 1024; omega

theorem mem_rows (j : Fin 8) (y : S1024x1024.Idx) : y ∈ chunkSet j ↔ 128 * j.val ≤ (y 0).val ∧ (y 0).val < 128 * j.val + 128 := by
  unfold chunkSet
  rw [Rect.mem_set_unit]
  have h1 : (y 1).val < 1024 := (y 1).isLt
  constructor
  · intro H; exact H 0
  · intro H a; fin_cases a
    · exact H
    · show 0 ≤ (y 1).val ∧ (y 1).val < 0 + 1024; omega

theorem dst_disjoint (j : Fin 8) : ∀ k k' : Fin (nRow j), k ≠ k' → Disjoint (rowSet j k) (rowSet j k') :=
  fun k k' hne => by
    rw [Finset.disjoint_left]; intro y hy hy'; rw [mem_row] at hy hy'; exact hne (Fin.ext (by omega))
theorem dst_cover (j : Fin 8) : Finset.univ.biUnion (rowSet j) = chunkSet j := by
  ext y
  simp only [Finset.mem_biUnion, Finset.mem_univ, true_and, mem_row, mem_rows]
  have h := issueLoop_trips j
  constructor
  · rintro ⟨k, hk⟩; have := k.isLt; unfold nRow at *; omega
  · intro H; exact ⟨⟨(y 0).val - 128 * j.val, by unfold nRow; omega⟩, by dsimp only; omega⟩

theorem rows_disjoint : ∀ j j' : Fin 8, j ≠ j' → Disjoint (chunkSet j) (chunkSet j') :=
  fun j j' hne => by
    rw [Finset.disjoint_left]; intro y hy hy'; rw [mem_rows] at hy hy'; exact hne (Fin.ext (by omega))
theorem rows_cover : Finset.univ.biUnion (fun j => chunkSet j) = Finset.univ := by
  ext y
  simp only [Finset.mem_biUnion, Finset.mem_univ, true_and, iff_true]
  have h : (y 0).val < 1024 := (y 0).isLt
  exact ⟨⟨(y 0).val / 128, by omega⟩, (mem_rows _ _).mpr (by dsimp only; omega)⟩

section Chunk

variable (I : Ins F) (c : Dev nD)

/-- The row numbers, held. -/
abbrev idsPts : sProp 𝕄 := idsM.view.loc (c : Thread nD τ) ↦{fullShare} I.ids c
/-- The chunk's share of the table. -/
def shareOf (j : Fin 8) : PosShare TreeShare := Transfers.shareTok fullShare 8 j
abbrev tabPts (q : PosShare TreeShare) : sProp 𝕄 := tabM.view.loc (c : Thread nD τ) ↦{q} I.tab c

/-- The row number the `k`-th copy reads. -/
def wordAt (j : Fin 8) (k : Fin (nRow j)) : BitVec 32 := I.ids c (idIx (rowIx j k))
theorem word_ok (hids : ∀ i, k0_chk1 (I.ids c i)) (j : Fin 8) (k : Fin (nRow j)) : k0_chk1 (wordAt I c j k) := hids _

variable (hids : ∀ i, k0_chk1 (I.ids c i)) (j : Fin 8)

/-- The table row of the `k`-th copy, and its token. -/
def rowM (k : Fin (nRow j)) : Memref sig .tc .hbm S1x1024 .f32 := srcM (wordAt I c j k) (word_ok I c hids j k)
def tabSet (k : Fin (nRow j)) : Finset S8192x1024.Idx :=
  (Rect.unit (s := S8192x1024) (k0_off3 (wordAt I c j k)) S1x1024.size (k0_off3_inb _ (word_ok I c hids j k))).set
theorem tab_set (k : Fin (nRow j)) : (rowM I c hids j k).view.set = tabSet I c hids j k := by
  unfold rowM srcM; exact View.set_slice_whole _ _
def tokOf (k : Fin (nRow j)) : PosShare TreeShare := Transfers.shareTok (shareOf j) (nRow j) k

/-- The `k`-th copy's table row under its token. -/
def srcPts (k : Fin (nRow j)) : sProp 𝕄 :=
  tabM.view.loc (c : Thread nD τ) ↦[tabSet I c hids j k]{tokOf j k} I.tab c
/-- The `k`-th row of the chunk at contents `f`. -/
def dstPts (k : Fin (nRow j)) (f : S1024x1024.Idx → Elt F .f32) : sProp 𝕄 :=
  outPts c (rowSet j k) f
/-- What the `k`-th copy delivers. -/
def deliver (k : Fin (nRow j)) : sProp 𝕄 := iprop(dstPts c j k (gath I c) ∗ srcPts I c hids j k)
instance deliver_storable (k : Fin (nRow j)) : BI.Storable (upEmb : UEmb _ 𝕄) (deliver I c hids j k) := by
  unfold deliver dstPts srcPts; infer_instance

/-- The chunk's batch: `k` copies started, `u` units waited for. -/
def batch (k u : ℕ) : sProp 𝕄 := Transfers.Batch EC (c : Thread nD τ) (.dma (gathS j)) () NR (deliver I c hids j) k u

/-- What of the table the copies do not use: each token off its row, and what is left of the chunk's share. -/
def aside : sProp 𝕄 :=
  iprop(tabPts I c (Transfers.shareDrop (shareOf j) (nRow j))
    ∗ bigSep Finset.univ fun k : Fin (nRow j) =>
        tabM.view.loc (c : Thread nD τ) ↦[Finset.univ \ tabSet I c hids j k]{tokOf j k} I.tab c)

/-- A chunk before its copies start: its rows at any contents, its semaphore at zero, its share of the table. -/
def fresh : sProp 𝕄 := iprop((∃ f, outPts c (chunkSet j) f) ∗ semVal (gathCell c j) 0 ∗ tabPts I c (shareOf j))
/-- A chunk whose copies are on their way. -/
def flying : sProp 𝕄 := iprop(batch I c hids j (nRow j) 0 ∗ aside I c hids j)
/-- A chunk whose rows are in. -/
def landed : sProp 𝕄 := iprop(outPts c (chunkSet j) (gath I c) ∗ semVal (gathCell c j) 0 ∗ tabPts I c (shareOf j))

/-- The chunk's share of the table is the copies' rows under their tokens, and the rest. -/
theorem share_split : (tabPts I c (shareOf j) : sProp 𝕄)
    ⊣⊢ iprop(bigSep Finset.univ (srcPts I c hids j) ∗ aside I c hids j) := by
  have h1 := Transfers.pointsTo_toks (Ix := Unit) (Name := ℕ) (U := UU) (Lvl := ℕ) (ℓ := tabM.view.loc (c : Thread nD τ)) (S := Finset.univ) (f := I.tab c) (shareOf j) (nRow j)
  have h2 : ∀ k : Fin (nRow j), (tabM.view.loc (c : Thread nD τ) ↦{Transfers.shareTok (shareOf j) (nRow j) k} I.tab c : sProp 𝕄)
      ⊣⊢ iprop(srcPts I c hids j k ∗ tabM.view.loc (c : Thread nD τ) ↦[Finset.univ \ tabSet I c hids j k]{tokOf j k} I.tab c) :=
    fun k => pointsTo_split_subset (Finset.subset_univ _)
  have h3 : (bigSep Finset.univ (fun k : Fin (nRow j) => (tabM.view.loc (c : Thread nD τ) ↦{Transfers.shareTok (shareOf j) (nRow j) k} I.tab c : sProp 𝕄)))
      ⊣⊢ iprop(bigSep Finset.univ (srcPts I c hids j)
        ∗ bigSep Finset.univ fun k : Fin (nRow j) => tabM.view.loc (c : Thread nD τ) ↦[Finset.univ \ tabSet I c hids j k]{tokOf j k} I.tab c) :=
    ⟨(BI.bigSep_mono fun k _ => (h2 k).1).trans (Entails.of_eq (BI.bigSep_sep _ _ _)),
      (Entails.of_eq (BI.bigSep_sep _ _ _).symm).trans (BI.bigSep_mono fun k _ => (h2 k).2)⟩
  unfold aside
  constructor
  · refine h1.1.trans ?_
    iintro ⟨Hd, Ht⟩
    ihave H := h3.1 $$ Ht
    icases H with ⟨Ha, Hb⟩
    isplitl [Ha]; · iexact Ha
    isplitl [Hd] <;> iassumption
  · refine BIBase.Entails.trans ?_ h1.2
    iintro ⟨Ha, Hd, Hb⟩
    isplitl [Hd]; · iexact Hd
    iapply h3.2
    isplitl [Ha] <;> iassumption

/-- A chunk's rows at one contents are its rows one by one. -/
theorem rows_split (f : S1024x1024.Idx → Elt F .f32) :
    (outPts c (chunkSet j) f : sProp 𝕄) = bigSep Finset.univ fun k => dstPts c j k f :=
  Ring.pointsTo_sub_blocks (ℓ := outM.view.loc (c : Thread nD τ)) (rowSet j) (dst_disjoint j) (chunkSet j) (dst_cover j) f

/-- What a row copy writes is the gathered row. -/
theorem copied (k : Fin (nRow j)) (f : S1024x1024.Idx → Elt F .f32) :
    ∀ i ∈ rowSet j k,
      (dstM j k).view.write (Elt F) f ((rowM I c hids j k).view.read (Elt F) (I.tab c)) Finset.univ i = gath I c i := by
  intro i hi
  rw [← dst_set] at hi
  obtain ⟨x, -, rfl⟩ := Finset.mem_map.mp hi
  refine (View.write_emb_of_mem _ _ (Finset.mem_univ x)).trans ?_
  obtain ⟨z, hz⟩ : ∃ z : S1024x1024.Idx, z = (dstM j k).view.emb x := ⟨_, rfl⟩
  show I.tab c ((rowM I c hids j k).view.emb x) = gath I c ((dstM j k).view.emb x)
  refine Eq.trans ?_ (congrArg (gath I c) hz)
  have hx : (x 0).val < 1 := (x 0).isLt
  have hr := row_toNat j k
  have h0 : (z 0).val = (row j k).toNat + 1 * (x 0).val := by rw [hz]; rfl
  have h1 : z 1 = x 1 := by rw [hz]; apply Fin.ext; show 0 + 1 * (x 1).val = (x 1).val; omega
  have hrow : z 0 = rowIx j k := Fin.ext (by rw [h0]; show _ = 128 * j.val + k.val; omega)
  have hw : (wordAt I c j k).toNat + 1 ≤ 8192 := word_ok I c hids j k 0
  unfold gath
  rw [hrow, h1]
  congr 1
  funext a
  fin_cases a
  · apply Fin.ext
    show (wordAt I c j k).toNat + 1 * (x 0).val = min (wordAt I c j k).toNat 8191
    omega
  · apply Fin.ext; show 0 + 1 * (x 1).val = (x 1).val; omega

/-! ## The two loops -/

/-- Before trip `k` of a chunk's issue loop: `k` copies started, the rows and tokens of the others in hand. -/
def issueInv (k : ℕ) (_ : Unit) : sProp 𝕄 :=
  iprop(idsPts I c ∗ batch I c hids j k 0
    ∗ bigSep (Ring.rangeSet (nRow j) k (nRow j)) fun t => iprop((∃ f, dstPts c j t f) ∗ srcPts I c hids j t))

theorem word_read (k : Fin (nRow j)) :
    ((idsM : Memref sig .tc .smem S1024 .i32).access (Rect.unit (s := S1024) ![(Scalar.indexCast (row j k)).toNat] S1.size (row_inb_ids j k))).read (Elt F) (I.ids c)
      (Shape.Idx.first (numel1_S1.symm ▸ Nat.one_pos)) = wordAt I c j k := by
  show I.ids c _ = I.ids c _
  congr 1
  funext a
  fin_cases a
  apply Fin.ext
  show (Scalar.indexCast (row j k)).toNat + 1 * ((Shape.Idx.first (s := ⟨1, S1.size⟩) _) 0).val = 128 * j.val + k.val
  have h := row_toNat j k
  have h0 : ((Shape.Idx.first (s := ⟨1, S1.size⟩) (numel1_S1.symm ▸ Nat.one_pos)) 0).val < 1 := Fin.isLt _
  have h2 : (Scalar.indexCast (row j k)).toNat = (row j k).toNat := rfl
  omega

theorem copied_pts (k : Fin (nRow j)) (f : S1024x1024.Idx → Elt F .f32) :
    ((dstM j k).view.loc (c : Thread nD τ) ↦[rowSet j k]{fullShare}
        ((dstM j k).view.write (Elt F) f ((rowM I c hids j k).view.read (Elt F) (I.tab c)) Finset.univ) : sProp 𝕄)
      ⊢ dstPts c j k (gath I c) :=
  Entails.of_eq (pointsTo_congr (ℓ := outM.view.loc (c : Thread nD τ)) (I := rowSet j k) (q := fullShare) (copied I c hids j k f))

/-- One trip of a chunk's issue loop starts the next copy. -/
theorem issue_step (k : Fin (nRow j)) (acc : Unit) :
    issueInv I c hids j k.val acc
      ⊢ wp frame (wpE (defs₀ (F := F)) 𝒱₀ c none) Set.univ (issueTrip (F := F) idsM tabM outM cc0_scratch2 j k acc)
          (issueInv I c hids j (k.val + 1)) := by
  have hk := k.isLt
  unfold issueInv
  rw [Ring.bigSep_rangeSet_head (lo := k.val) hk hk]
  iintro ⟨Hi, HB, ⟨⟨%f, Hd⟩, Hs⟩, Hr⟩
  unfold issueTrip smemLoad
  rw [wp_bind]
  iapply (wp_smemLoadElt 𝒱₀ (c : Thread nD τ) none Set.univ (m := idsM)
      (r := Rect.unit (s := S1024) ![(Scalar.indexCast (row j k)).toNat] S1.size (row_inb_ids j k)) (q := fullShare) (f := I.ids c) (Finset.subset_univ _)) $$ Hi
  iintro Hi
  rw [wp_ret]
  imodintro
  rw [word_read]
  simp only [Prog.bind_lift, wp_bind]
  rw [wp_assume_of 𝒱₀ (c : Thread nD τ) none Set.univ (word_ok I c hids j k)]
  iapply (Transfers.wp_dmaBatch EC 𝒱₀ (c : Thread nD τ) none (src := rowM I c hids j k) (dst := dstM j k)
      (Sd := rowSet j k) (q := tokOf j k) (fs := I.tab c) (fd := f) (D := deliver I c hids j) () NR (dst_amount j k) (dst_set j k).subset hk (Nat.zero_le _) (?_)) $$ [Hd Hs HB]
  · iintro ⟨Hd, Hs⟩
    unfold deliver
    isplitl [Hd]
    · iapply (copied_pts I c hids j k f) $$ Hd
    · unfold srcPts; rw [← tab_set]; iexact Hs
  · isplitl [Hs]; · unfold srcPts; rw [← tab_set]; iexact Hs
    isplitl [Hd]; · unfold dstPts; iexact Hd
    unfold batch; iexact HB
  iintro HB
  rw [show (Pure.pure PUnit.unit : Prog (TpuEff nD τ sig (Elt F) Λ₀ .tc) Unit) = .ret () from rfl, wp_ret]
  imodintro
  isplitl [Hi]; · iexact Hi
  isplitl [HB]; · unfold batch; iexact HB
  iexact Hr

/-- A chunk's rows at one contents and its tokens are what the issue loop starts from. -/
theorem issue_rows (f : S1024x1024.Idx → Elt F .f32) :
    iprop(bigSep Finset.univ (fun k => dstPts c j k f) ∗ bigSep Finset.univ (srcPts I c hids j))
      ⊢ (bigSep (Ring.rangeSet (nRow j) 0 (nRow j)) (fun t => iprop((∃ f, dstPts c j t f) ∗ srcPts I c hids j t)) : sProp 𝕄) := by
  rw [Ring.rangeSet_univ]
  refine (Entails.of_eq (BI.bigSep_sep _ _ _).symm).trans (BI.bigSep_mono fun k _ => ?_)
  show iprop(dstPts c j k f ∗ srcPts I c hids j k) ⊢ iprop((∃ f, dstPts c j k f) ∗ srcPts I c hids j k)
  iintro ⟨Ha, Hb⟩
  isplitl [Ha]; · iexists f; iexact Ha
  iexact Hb

/-- A chunk's issue loop sets all its copies on their way. -/
theorem issue_run (Q : Unit → sProp 𝕄) : iprop(idsPts I c ∗ fresh I c j ∗ (iprop(idsPts I c ∗ flying I c hids j) -∗ Q ⟨⟩))
    ⊢ wp frame (wpE (defs₀ (F := F)) 𝒱₀ c none) Set.univ (issue (F := F) idsM tabM outM cc0_scratch2 j) Q := by
  unfold fresh
  iintro ⟨Hi, ⟨⟨%f, Hd⟩, Hc, Ht⟩, HQ⟩
  imod (Transfers.batch_alloc' (Lvl := ℕ) EC (c : Thread nD τ) () NR (deliver I c hids j) (sm := .dma (gathS j)) (E := Set.univ)) $$ Hc with HB
  ihave Ht' := (share_split I c hids j).1 $$ Ht
  icases Ht' with ⟨Hs, Ha⟩
  ihave Hd' := (Entails.of_eq (rows_split c j f)) $$ Hd
  ihave Hds := (issue_rows I c hids j f) $$ [Hd' Hs]
  · isplitl [Hd'] <;> iassumption
  unfold issue
  iapply (Scf.wp_for Idealize.ShloMosaic.frame (wpE (defs₀ (F := F)) 𝒱₀ (c : Thread nD τ) none) Set.univ _ _ _ (issueLoop_ok j) ()
    (issueTrip (F := F) idsM tabM outM cc0_scratch2 j) (issueInv I c hids j) (issue_step I c hids j))
  isplitl [Hi HB Hds]
  · unfold issueInv batch
    isplitl [Hi]; · iexact Hi
    isplitl [HB]; · iexact HB
    iexact Hds
  iintro %acc HI
  ihave HI' := (show issueInv I c hids j (nRow j) acc ⊢ iprop(idsPts I c ∗ batch I c hids j (nRow j) 0) from by
    unfold issueInv
    iintro ⟨Hi, HB, -⟩
    isplitl [Hi] <;> iassumption) $$ HI
  icases HI' with ⟨Hi, HB⟩
  iapply HQ
  isplitl [Hi]; · iexact Hi
  unfold flying
  isplitl [HB] <;> iassumption

/-- Before trip `k` of a chunk's drain loop: either units of `k` copies are consumed, or, at the end, every row is in. -/
def drainInv (O : CellTallies nD τ sig Unit) (k : ℕ) (_ : Unit) : sProp 𝕄 :=
  iprop((∃ W, owes (c : Thread nD τ) O W) ∗ MayWait (c : Thread nD τ) (.dma (gathS j)) () O
    ∗ (if k < 128 then batch I c hids j (nRow j) (k * NR)
       else iprop(bigSep Finset.univ (deliver I c hids j) ∗ semVal (gathCell c j) 0)))

/-- One trip of a chunk's drain loop consumes one copy's units; the last brings every row. -/
theorem drain_step (O : CellTallies nD τ sig Unit) (k : Fin drainLoop.trips) (acc : Unit) :
    drainInv I c hids j O k.val acc
      ⊢ wp frame (wpE (defs₀ (F := F)) 𝒱₀ c none) Set.univ (drainTrip (F := F) tabM outM cc0_scratch2 j k acc)
          (drainInv I c hids j O (k.val + 1)) := by
  have hk : k.val < 128 := lt_of_lt_of_eq k.isLt drainLoop_trips
  have hn : nRow j = 128 := issueLoop_trips j
  have hmul : NR * nRow j = 128 * NR := by rw [hn]; exact Nat.mul_comm _ _
  have hsucc : (k.val + 1) * NR = k.val * NR + NR := Nat.succ_mul _ _
  unfold drainInv
  rw [if_pos hk]
  iintro ⟨⟨%W, HO⟩, #Hm, HB⟩
  unfold drainTrip batch
  simp only [Prog.bind_lift]
  rcases Nat.lt_or_ge (k.val + 1) 128 with h1 | h1
  · rw [if_pos h1]
    iapply (Transfers.wp_waitBatchO EC 𝒱₀ (c : Thread nD τ) none () (drain_credit j) (D := deliver I c hids j) (u := k.val * NR)
      (by rw [hmul, ← hsucc]; exact Nat.mul_lt_mul_of_pos_right h1 NR_pos) (O := O) (W := W)) $$ [HB HO]
    · isplitl [HB]; · iexact HB
      isplitl [HO]; · iexact HO
      iexact Hm
    iintro ⟨HB, HO⟩
    rw [Prog.pure_eq_ret, wp_ret]
    imodintro
    isplitl [HO]; · iexists _; iexact HO
    isplitr; · iexact Hm
    rw [hsucc]; iexact HB
  · rw [if_neg (Nat.not_lt.mpr h1)]
    iapply (Transfers.wp_waitBatchLastO EC 𝒱₀ (c : Thread nD τ) none (sem := gathS j) () (drain_credit j) NR_pos (D := deliver I c hids j) (u := k.val * NR)
      (by rw [hmul, ← hsucc, show k.val + 1 = 128 by omega]) (O := O) (W := W)) $$ [HB HO]
    · isplitl [HB]; · iexact HB
      isplitl [HO]; · iexact HO
      iexact Hm
    iintro ⟨HD, Hc, HO⟩
    rw [Prog.pure_eq_ret, wp_ret]
    imodintro
    isplitl [HO]; · iexists _; iexact HO
    isplitr; · iexact Hm
    isplitl [HD] <;> iassumption

/-- At the end of the drain loop the rows and the tokens are apart. -/
theorem drain_end (O : CellTallies nD τ sig Unit) (acc : Unit) :
    drainInv I c hids j O drainLoop.trips acc
      ⊢ iprop((∃ W, owes (c : Thread nD τ) O W) ∗ bigSep Finset.univ (fun k => dstPts c j k (gath I c)) ∗ bigSep Finset.univ (srcPts I c hids j)
          ∗ semVal (gathCell c j) 0) := by
  have hD : (bigSep Finset.univ (deliver I c hids j) : sProp 𝕄)
      ⊢ iprop(bigSep Finset.univ (fun k => dstPts c j k (gath I c)) ∗ bigSep Finset.univ (srcPts I c hids j)) :=
    Entails.of_eq (BI.bigSep_sep _ _ _)
  unfold drainInv
  rw [drainLoop_trips, if_neg (by decide)]
  iintro ⟨HO, -, HD, Hc⟩
  ihave HD' := hD $$ HD
  icases HD' with ⟨Hd, Hs⟩
  isplitl [HO]; · iexact HO
  isplitl [Hd]; · iexact Hd
  isplitl [Hs] <;> iassumption

/-- A chunk's drain loop brings its rows in. -/
theorem drain_run (O : CellTallies nD τ sig Unit) (Q : Unit → sProp 𝕄) :
    iprop((∃ W, owes (c : Thread nD τ) O W) ∗ MayWait (c : Thread nD τ) (.dma (gathS j)) () O ∗ flying I c hids j
        ∗ (iprop((∃ W, owes (c : Thread nD τ) O W) ∗ landed I c j) -∗ Q ⟨⟩))
      ⊢ wp frame (wpE (defs₀ (F := F)) 𝒱₀ c none) Set.univ (drain (F := F) tabM outM cc0_scratch2 j) Q := by
  unfold flying
  iintro ⟨HO, Hm, ⟨HB, Ha⟩, HQ⟩
  unfold drain
  iapply (Scf.wp_for frame (wpE (defs₀ (F := F)) 𝒱₀ c none) Set.univ _ _ _ drainLoop_ok ()
    (drainTrip (F := F) tabM outM cc0_scratch2 j) (drainInv I c hids j O) (drain_step I c hids j O))
  isplitl [HO Hm HB]
  · unfold drainInv
    rw [if_pos (by decide), Nat.zero_mul]
    isplitl [HO]; · iexact HO
    isplitl [Hm] <;> iassumption
  iintro %acc HI
  ihave HI' := (drain_end I c hids j O acc) $$ HI
  icases HI' with ⟨HO, Hd, Hs, Hc⟩
  iapply HQ
  isplitl [HO]; · iexact HO
  unfold landed
  isplitl [Hd]
  · iapply (Entails.of_eq (rows_split c j (gath I c)).symm); iexact Hd
  isplitl [Hc]; · iexact Hc
  iapply (share_split I c hids j).2
  isplitl [Hs] <;> iassumption

end Chunk

end Cert.KernelIdeal.Steps

end
-- ==== Proof.KernelIdeal.Values.lean ====
/- What the arithmetic of a chunk writes.

   The body's payloads are over one chunk's vectors; the buffers' contents are named over whole buffers. Each theorem
   here says that a payload of chunk reads, written back to the chunk, leaves the named contents there. -/
module

public import proofs.«01_k».proof.Proof.KernelIdeal.Gather
public import Idealize.ShloMosaic.Lib.Pipeline.Value

@[expose] public section

noncomputable section

namespace Cert.KernelIdeal.Steps

open Cert.KernelIdeal Cert.KernelIdeal.Gen
open Idealize.ShloMosaic Idealize.ShloMosaic.TcCoe

variable {F : FTy → Type} [FloatOps F]

/-- Element `x` of chunk `j`, as an element of a whole buffer. -/
def elemOf (j : Fin 8) (x : S128x1024.Idx) : S1024x1024.Idx := (rowsR j).emb x
theorem elem_row (j : Fin 8) (x : S128x1024.Idx) : (elemOf j x 0).val = 128 * j.val + (x 0).val := by
  show 128 * j.val + 1 * (x 0).val = _; omega

section Chunk

variable (I : Ins F) (c : Dev nD) (j : Fin 8)

/-- The rows buffer, the mask, and the receive buffer, read at a chunk. -/
abbrev readOut (f : S1024x1024.Idx → Elt F .f32) : Vec F S128x1024 .f32 := (outM.access (rowsR j)).read (Elt F) f
abbrev readMsk : Vec F S128x1 .f32 := (mskM.access (maskR j)).read (Elt F) (I.msk c)
abbrev readRcv (f : S1024x1024.Idx → Elt F .bf16) : Vec F S128x1024 .bf16 := (rcvM.access (rowsR j)).read (Elt F) f

theorem pay5_at (x : S128x1024.Idx) : k0_pay5 (readOut j (gath I c)) (readMsk I c j) x = scaled I c (elemOf j x) := by
  unfold k0_pay5
  rw [shapeCast_self, shapeCast_self]
  show FloatOps.mulf (gath I c (elemOf j x)) (I.msk c _) = FloatOps.mulf (gath I c (elemOf j x)) (I.msk c (mskIx (elemOf j x 0)))
  congr 2
  funext a
  fin_cases a
  · apply Fin.ext; rfl
  · apply Fin.ext; rfl

theorem pay6_at (x : S128x1024.Idx) :
    k0_pay6 (k0_pay5 (readOut j (gath I c)) (readMsk I c j)) x = rounded I c (elemOf j x) := by
  unfold k0_pay6
  rw [shapeCast_self]
  show FloatOps.truncf .bf16 bitsLt_bf16_f32 (k0_pay5 (readOut j (gath I c)) (readMsk I c j) x) = _
  rw [pay5_at]; rfl

theorem pay20_at (x : S128x1024.Idx) :
    k0_pay20 (readOut j (scaled I c)) (readRcv j (rounded I (pr c))) x = result I c (elemOf j x) := by
  unfold k0_pay20
  rw [shapeCast_self]
  rfl

/-- A payload agreeing with `g` on the chunk, written to the chunk, leaves `g` there. -/
theorem write_out (f g : S1024x1024.Idx → Elt F .f32) (w : Vec F S128x1024 .f32) (h : ∀ x, w x = g (elemOf j x)) :
    ∀ i ∈ chunkSet j, (outM.access (rowsR j)).write (Elt F) f w Finset.univ i = g i := by
  intro i hi
  unfold chunkSet at hi
  rw [← Rect.map_emb_univ] at hi
  obtain ⟨x, -, rfl⟩ := Finset.mem_map.mp hi
  exact (View.write_emb_of_mem _ _ (Finset.mem_univ x)).trans (h x)
theorem write_snd (f g : S1024x1024.Idx → Elt F .bf16) (w : Vec F S128x1024 .bf16) (h : ∀ x, w x = g (elemOf j x)) :
    ∀ i ∈ chunkSet j, (sndM.access (rowsR j)).write (Elt F) f w Finset.univ i = g i := by
  intro i hi
  unfold chunkSet at hi
  rw [← Rect.map_emb_univ] at hi
  obtain ⟨x, -, rfl⟩ := Finset.mem_map.mp hi
  exact (View.write_emb_of_mem _ _ (Finset.mem_univ x)).trans (h x)
/-- A chunk copied from the send buffer to the receive buffer holds what the send buffer held. -/
theorem write_rcv (f g : S1024x1024.Idx → Elt F .bf16) :
    ∀ i ∈ chunkSet j, (rowsOf rcvM j).view.write (Elt F) f ((rowsOf sndM j).view.read (Elt F) g) Finset.univ i = g i := by
  intro i hi
  unfold chunkSet at hi
  rw [← Rect.map_emb_univ] at hi
  obtain ⟨x, -, rfl⟩ := Finset.mem_map.mp hi
  exact (View.write_emb_of_mem _ _ (Finset.mem_univ x)).trans rfl

theorem snd_set : (rowsOf sndM j).view.set = chunkSet j := View.set_slice_whole _ _
theorem rcv_set : (rowsOf rcvM j).view.set = chunkSet j := View.set_slice_whole _ _
theorem out_set : (outM.access (rowsR j)).set = chunkSet j := View.set_slice_whole _ _

end Chunk

end Cert.KernelIdeal.Steps

end
-- ==== Proof.KernelIdeal.Passes.lean ====
/- The steps of a chunk, each once for every chunk: scale and round, send, receive and add, wait for the send. -/
module

public import proofs.«01_k».proof.Proof.KernelIdeal.Values

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Step

variable (I : Ins F) (c : Dev nD) (j : Fin 8)

/-- The mask. -/
abbrev mskPts : sProp 𝕄 := mskM.view.loc (c : Thread nD τ) ↦{fullShare} I.msk c

/-- The rows buffer's chunk after the scaling store is the scaled chunk. -/
theorem scaled_pts :
    ((outM.access (rowsR j)).loc (c : Thread nD τ) ↦[chunkSet j]{fullShare}
        ((outM.access (rowsR j)).write (Elt F) (gath I c) (k0_pay5 (readOut j (gath I c)) (readMsk I c j)) Finset.univ) : sProp 𝕄)
      ⊢ outPts c (chunkSet j) (scaled I c) :=
  Entails.of_eq (pointsTo_congr (ℓ := outM.view.loc (c : Thread nD τ)) (I := chunkSet j) (q := fullShare)
    (write_out j (gath I c) (scaled I c) _ (pay5_at I c j)))
/-- The send buffer's chunk after the rounding store is the rounded chunk. -/
theorem rounded_pts (f : S1024x1024.Idx → Elt F .bf16) :
    ((sndM.access (rowsR j)).loc (c : Thread nD τ) ↦[chunkSet j]{fullShare}
        ((sndM.access (rowsR j)).write (Elt F) f (k0_pay6 (k0_pay5 (readOut j (gath I c)) (readMsk I c j))) Finset.univ) : sProp 𝕄)
      ⊢ sndPts c j (rounded I c) := by
  unfold sndPts
  rw [snd_set]
  exact Entails.of_eq (pointsTo_congr (ℓ := sndM.view.loc (c : Thread nD τ)) (I := chunkSet j) (q := fullShare)
    (write_snd j f (rounded I c) _ (pay6_at I c j)))
/-- The rows buffer's chunk after the adding store is the result's chunk. -/
theorem result_pts :
    ((outM.access (rowsR j)).loc (c : Thread nD τ) ↦[chunkSet j]{fullShare}
        ((outM.access (rowsR j)).write (Elt F) (scaled I c) (k0_pay20 (readOut j (scaled I c)) (readRcv j (rounded I (pr c)))) Finset.univ) : sProp 𝕄)
      ⊢ outPts c (chunkSet j) (result I c) :=
  Entails.of_eq (pointsTo_congr (ℓ := outM.view.loc (c : Thread nD τ)) (I := chunkSet j) (q := fullShare)
    (write_out j (scaled I c) (result I c) _ (pay20_at I c j)))

theorem sndPts_eq (f : S1024x1024.Idx → Elt F .bf16) :
    (sndPts c j f : sProp 𝕄) = ((sndM.access (rowsR j)).loc (c : Thread nD τ) ↦[chunkSet j]{fullShare} f) := by
  unfold sndPts; rw [snd_set]
theorem rcvPts_eq (f : S1024x1024.Idx → Elt F .bf16) :
    (rcvPts c j f : sProp 𝕄) = ((rcvM.access (rowsR j)).loc (c : Thread nD τ) ↦[chunkSet j]{fullShare} f) := by
  unfold rcvPts; rw [rcv_set]

/-- A chunk is scaled in place, and its rounding left in the send buffer. -/
theorem scale_run (Q : Unit → sProp 𝕄) :
    iprop(outPts c (chunkSet j) (gath I c) ∗ mskPts I c ∗ (∃ f, sndPts c j f)
        ∗ (iprop(outPts c (chunkSet j) (scaled I c) ∗ mskPts I c ∗ sndPts c j (rounded I c)) -∗ Q ⟨⟩))
      ⊢ wp frame (wpE (defs₀ (F := F)) 𝒱₀ c none) Set.univ (scale (F := F) mskM outM sndM (Memref.isWhole_whole _) j) Q := by
  iintro ⟨Ho, Hm, ⟨%f, Hs⟩, HQ⟩
  unfold scale
  simp only [Prog.bind_lift, wp_bind]
  iapply (wp_load_rect 𝒱₀ (c : Thread nD τ) none Set.univ (m := outM) (r := rowsR j) (q := fullShare) (f := gath I c) (S := chunkSet j) (out_set j).subset) $$ Ho
  iintro Ho
  iapply (wp_load_rect 𝒱₀ (c : Thread nD τ) none Set.univ (m := mskM) (r := maskR j) (q := fullShare) (f := I.msk c) (Finset.subset_univ _)) $$ Hm
  iintro Hm
  iapply (wp_load_rect 𝒱₀ (c : Thread nD τ) none Set.univ (m := outM) (r := rowsR j) (q := fullShare) (f := gath I c) (S := chunkSet j) (out_set j).subset) $$ Ho
  iintro Ho
  iapply (wp_store 𝒱₀ (c : Thread nD τ) none Set.univ (m := outM) (r := rowsR j) (f := gath I c) (S := chunkSet j) (out_set j).subset) $$ Ho
  iintro Ho
  ihave Hs := (Entails.of_eq (sndPts_eq c j f)) $$ Hs
  iapply (wp_load_rect 𝒱₀ (c : Thread nD τ) none Set.univ (m := sndM) (r := rowsR j) (q := fullShare) (f := f) (S := chunkSet j) (snd_set j).subset) $$ Hs
  iintro Hs
  iapply (wp_store 𝒱₀ (c : Thread nD τ) none Set.univ (m := sndM) (r := rowsR j) (f := f) (S := chunkSet j) (snd_set j).subset) $$ Hs
  iintro Hs
  rw [wp_ret]
  imodintro
  iapply HQ
  isplitl [Ho]; · iapply (scaled_pts I c j) $$ Ho
  isplitl [Hm]; · iexact Hm
  iapply (rounded_pts I c j f) $$ Hs

/-- What the partner's copy of chunk `j` puts into device `c`'s partner's receive buffer. -/
theorem landed_pts (f : S1024x1024.Idx → Elt F .bf16) :
    ((rowsOf rcvM j).view.loc (pr c : Thread nD τ) ↦[(rowsOf rcvM j).view.set]{fullShare}
        ((rowsOf rcvM j).view.write (Elt F) f ((rowsOf sndM j).view.read (Elt F) (rounded I c)) Finset.univ) : sProp 𝕄)
      ⊢ (sched I).payload (recvCell (pr c) j) 0 () := by
  rw [payload_recv]
  unfold recvPay rcvPts
  rw [pr_pr, rcv_set]
  exact Entails.of_eq (pointsTo_congr (ℓ := rcvM.view.loc (pr c : Thread nD τ)) (I := chunkSet j) (q := fullShare)
    (write_rcv j f (rounded I c)))

/-- A chunk is sent: its source goes to the own send cell's duty and the partner's chunk, rewritten, to the partner's
    receive cell's. -/
theorem send_run (K : GSem nD τ sig → ℕ) (Q : Unit → sProp 𝕄) :
    iprop(cellInv ER (sched I) (K (sendCell c j)) (sendCell c j) ∗ cellInv ER (sched I) (K (recvCell (pr c) j)) (recvCell (pr c) j)
        ∗ sndPts c j (rounded I c) ∗ (∃ f, rcvPts (pr c) j f) ∗ (∃ W, owes (c : Thread nD τ) (owed c j.val) W)
        ∗ dutyTok ER (sendCell c j) 0 () ∗ reached ER (sendCell c j) 0
        ∗ dutyTok ER (recvCell (pr c) j) 0 () ∗ reached ER (recvCell (pr c) j) 0
        ∗ (iprop(cred (tallyAt (sendCell c j) () N) ∗ (∃ W, owes (c : Thread nD τ) (owed c (j.val + 1)) W)) -∗ Q ⟨⟩))
      ⊢ wp frame (wpE (defs₀ (F := F)) 𝒱₀ c none) Set.univ
          (send (F := F) sndM (Memref.isWhole_whole _) rcvM (Memref.isWhole_whole _) cc0_scratch3 cc0_scratch4 (pr c) j) Q := by
  iintro ⟨#HIs, #HIr, Hs, ⟨%fd, Hd⟩, ⟨%W, HO⟩, HtS, #HrS, HtR, #HrR, HQ⟩
  unfold send
  simp only [Prog.lift]
  iapply (Rounds.wp_send_pointsTo 𝒱₀ ER (sched I) (c : Thread nD τ) none (c' := (pr c : Thread nD τ)) (src := rowsOf sndM j) (dst := rowsOf rcvM j)
      (sS := .dma (sendS j)) (sem := .dma (recvS j)) (q := fullShare) (fs := rounded I c) (κ₁ := K (sendCell c j)) (κ₂ := K (recvCell (pr c) j))
      (r₁ := 0) (r₂ := 0) (d₁ := ()) (d₂ := ()) (fd := fd)
      (by rw [duties_send]; exact Finset.mem_singleton_self _) (by rw [duties_recv]; exact Finset.mem_singleton_self _)
      () () N rfl (amount_send I c j ()) (amount_recv I (pr c) j ()) (owed c (j.val + 1)) (owed_succ c j) (W := W)
      (by rw [payload_send]; exact BI.Entails.refl _)
      (landed_pts I c j fd)) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  rw [wp_ret]
  imodintro
  iapply HQ
  isplitl [Hc]; · iexact Hc
  iexists _; iexact HO

/-- The partner's chunk comes and is added to the chunk here. -/
theorem recv_run (K : GSem nD τ sig → ℕ) (Q : Unit → sProp 𝕄) :
    iprop(cellInv ER (sched I) (K (recvCell c j)) (recvCell c j) ∗ outPts c (chunkSet j) (scaled I c)
        ∗ (∃ W, owes (c : Thread nD τ) (0 : CellTallies nD τ sig Unit) W)
        ∗ cred (tallyAt (recvCell c j) () N) ∗ atPos ER (recvCell c j) 0 ∅ 0
        ∗ (iprop(outPts c (chunkSet j) (result I c) ∗ (∃ f, rcvPts c j f) ∗ (∃ W, owes (c : Thread nD τ) (0 : CellTallies nD τ sig Unit) W)
            ∗ atPos ER (recvCell c j) (0 + 1) ∅ 0) -∗ Q ⟨⟩))
      ⊢ wp frame (wpE (defs₀ (F := F)) 𝒱₀ c none) Set.univ
          (recv (F := F) outM sndM (Memref.isWhole_whole _) rcvM (Memref.isWhole_whole _) cc0_scratch4 j) Q := by
  iintro ⟨#HI, Ho, ⟨%W, HO⟩, Hc, Ha, HQ⟩
  unfold recv
  simp only [Prog.bind_lift, wp_bind]
  iapply (Rounds.wp_wait_rest_token 𝒱₀ ER (sched I) (c : Thread nD τ) none (κ := K (recvCell c j)) (sm := .dma (recvS j))
      (wpE_waitDma2_eq (src := rowsOf sndM j) (dst := rowsOf rcvM j) 𝒱₀ (c : Thread nD τ) none Set.univ) (Set.mem_univ _) () (O := 0) (W := W) (R := 0) (m := 0) (T := ∅)
      ((Nat.zero_add _).trans ((rcv_credit j).trans (expect_recv I c j).symm))) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hr := (Entails.of_eq ((rest_recv I c j).trans ((by unfold recvPay; rfl : recvPay I c j = rcvPts c j (rounded I (pr c))).trans (rcvPts_eq c j _)))) $$ Hp
  iapply (wp_load_rect 𝒱₀ (c : Thread nD τ) none Set.univ (m := outM) (r := rowsR j) (q := fullShare) (f := scaled I c) (S := chunkSet j) (out_set j).subset) $$ Ho
  iintro Ho
  iapply (wp_load_rect 𝒱₀ (c : Thread nD τ) none Set.univ (m := rcvM) (r := rowsR j) (q := fullShare) (f := rounded I (pr c)) (S := chunkSet j) (rcv_set j).subset) $$ Hr
  iintro Hr
  iapply (wp_load_rect 𝒱₀ (c : Thread nD τ) none Set.univ (m := outM) (r := rowsR j) (q := fullShare) (f := scaled I c) (S := chunkSet j) (out_set j).subset) $$ Ho
  iintro Ho
  iapply (wp_store 𝒱₀ (c : Thread nD τ) none Set.univ (m := outM) (r := rowsR j) (f := scaled I c) (S := chunkSet j) (out_set j).subset) $$ Ho
  iintro Ho
  rw [wp_ret]
  imodintro
  iapply HQ
  isplitl [Ho]; · iapply (result_pts I c j) $$ Ho
  isplitl [Hr]
  · iexists (rounded I (pr c)); iapply (Entails.of_eq (rcvPts_eq c j _).symm) $$ Hr
  isplitl [HO]; · iexists _; iexact HO
  iexact Ha

/-- The own chunk has left: its source is back. -/
theorem waitSend_run (K : GSem nD τ sig → ℕ) (Q : Unit → sProp 𝕄) :
    iprop(cellInv ER (sched I) (K (sendCell c j)) (sendCell c j)
        ∗ (∃ W, owes (c : Thread nD τ) (0 : CellTallies nD τ sig Unit) W)
        ∗ cred (tallyAt (sendCell c j) () N) ∗ atPos ER (sendCell c j) 0 ∅ 0
        ∗ (iprop((∃ f, sndPts c j f) ∗ (∃ W, owes (c : Thread nD τ) (0 : CellTallies nD τ sig Unit) W)
            ∗ atPos ER (sendCell c j) (0 + 1) ∅ 0) -∗ Q ⟨⟩))
      ⊢ wp frame (wpE (defs₀ (F := F)) 𝒱₀ c none) Set.univ
          (waitSend (F := F) sndM (Memref.isWhole_whole _) rcvM (Memref.isWhole_whole _) cc0_scratch3 j) Q := by
  iintro ⟨#HI, ⟨%W, HO⟩, Hc, Ha, HQ⟩
  unfold waitSend
  simp only [Prog.lift]
  iapply (Rounds.wp_wait_rest_token 𝒱₀ ER (sched I) (c : Thread nD τ) none (κ := K (sendCell c j)) (sm := .dma (sendS j))
      (wpE_waitDma2_eq (src := rowsOf rcvM j) (dst := rowsOf sndM j) 𝒱₀ (c : Thread nD τ) none Set.univ) (Set.mem_univ _) () (O := 0) (W := W) (R := 0) (m := 0) (T := ∅)
      ((Nat.zero_add _).trans ((snd_credit j).trans (expect_send I c j).symm))) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave Hs := (Entails.of_eq ((rest_send I c j).trans (by unfold sendPay; rfl : sendPay I c j = sndPts c j (rounded I c)))) $$ Hp
  rw [wp_ret]
  imodintro
  iapply HQ
  isplitl [Hs]; · iexists (rounded I c); iexact Hs
  isplitl [HO]; · iexists _; iexact HO
  iexact Ha

end Step

end Cert.KernelIdeal.Steps

end
-- ==== Proof.KernelIdeal.Body.lean ====
/- The whole body, on one device.

   A pass over the chunks keeps one family of assertions, one for each chunk: before step `k` the chunks below `k` stand
   after their step and the others before it. In the first pass a chunk not yet stepped has its rows either at rest or on
   their way, as the two chunks ahead of the current one are being gathered. -/
module

public import proofs.«01_k».proof.Proof.KernelIdeal.Passes
public import Idealize.ShloMosaic.Harness.Basic

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

/-! ## Families over the chunks -/

/-- One member of a family taken out and put back as another family's. -/
theorem fam_at (P P' : Fin 8 → sProp 𝕄) (k : Fin 8) (h : ∀ j, j ≠ k → P j = P' j) :
    (bigSep Finset.univ P : sProp 𝕄) ⊢ iprop(P k ∗ (P' k -∗ bigSep Finset.univ P')) := by
  rw [bigSep_univ_at P k, bigSep_univ_at P' k,
    bigSep_congr (s := Finset.univ.erase k) (Φ := P) (Ψ := P') fun j hj => h j (Finset.ne_of_mem_erase hj)]
  iintro ⟨Hk, Hr⟩
  isplitl [Hk]; · iexact Hk
  iintro Hk
  isplitl [Hk] <;> iassumption

/-- A step for every chunk in order, from a step at each. -/
theorem inOrder_run (c : Dev nD) (f : Fin 8 → Pr F) (J : ℕ → sProp 𝕄)
    (h : ∀ j : Fin 8, J j.val ⊢ wp frame (wpE (defs₀ (F := F)) 𝒱₀ c none) Set.univ (f j) (fun _ => J (j.val + 1)))
    (Q : Unit → sProp 𝕄) :
    iprop(J 0 ∗ (J 8 -∗ |={Set.univ}=> Q ⟨⟩)) ⊢ wp frame (wpE (defs₀ (F := F)) 𝒱₀ c none) Set.univ (inOrder f) Q := by
  have hJ : J 0 ⊢ wp frame (wpE (defs₀ (F := F)) 𝒱₀ c none) Set.univ (inOrder f) (fun _ => J 8) := by
    unfold inOrder
    simp only [wp_bind]
    exact (h 0).trans (wp_mono _ _ _ fun _ => (h 1).trans (wp_mono _ _ _ fun _ => (h 2).trans (wp_mono _ _ _ fun _ =>
      (h 3).trans (wp_mono _ _ _ fun _ => (h 4).trans (wp_mono _ _ _ fun _ => (h 5).trans (wp_mono _ _ _ fun _ =>
        (h 6).trans (wp_mono _ _ _ fun _ => h 7)))))))
  iintro ⟨H0, HQ⟩
  iapply (wp_fupd _ _ _)
  iapply (wp_wand _ _ _) $$ [H0]
  · iapply hJ $$ H0
  iintro %u H
  iapply HQ
  iexact H

section Run

variable (I : Ins F) (K : GSem nD τ sig → ℕ) (c : Dev nD) (hids : ∀ i, k0_chk1 (I.ids c i))

/-- The invariants a device opens: both barrier cells; its own send and receive cells and the partner's receive cells. -/
def chunkInvs (j : Fin 8) : sProp 𝕄 :=
  iprop(cellInv ER (sched I) (K (sendCell c j)) (sendCell c j) ∗ cellInv ER (sched I) (K (recvCell c j)) (recvCell c j)
    ∗ cellInv ER (sched I) (K (recvCell (pr c) j)) (recvCell (pr c) j))
instance chunkInvs_persistent (j : Fin 8) : BI.Persistent (chunkInvs I K c j) := by unfold chunkInvs; infer_instance
def invs : sProp 𝕄 :=
  iprop(cellInv ER (sched I) (K (barCell c)) (barCell c) ∗ cellInv ER (sched I) (K (barCell (pr c))) (barCell (pr c))
    ∗ bigSep Finset.univ (chunkInvs I K c))
instance invs_persistent : BI.Persistent (invs I K c) := by unfold invs; infer_instance

theorem invs_chunk (j : Fin 8) : invs I K c ⊢ chunkInvs I K c j := by
  unfold invs
  iintro ⟨-, -, H⟩
  iapply (show bigSep Finset.univ (chunkInvs I K c) ⊢ chunkInvs I K c j from bigSep_elim (Finset.mem_univ j)) $$ H

/-! ## The first pass -/

/-- What the first pass uses of a chunk beside its rows: its part of the send buffer, the partner's part of the receive
    buffer, and the tokens of the two duties its copy pays. -/
def supply (j : Fin 8) : sProp 𝕄 :=
  iprop((∃ f, sndPts c j f) ∗ iprop((∃ f, rcvPts (pr c) j f) ∗ reached ER (recvCell (pr c) j) 0)
    ∗ reached ER (sendCell c j) 0 ∗ dutyTok ER (sendCell c j) 0 () ∗ dutyTok ER (recvCell (pr c) j) 0 ())
/-- A chunk after its first step: scaled and sent. -/
def sent (j : Fin 8) : sProp 𝕄 :=
  iprop(outPts c (chunkSet j) (scaled I c) ∗ semVal (gathCell c j) 0 ∗ tabPts I c (shareOf j) ∗ cred (tallyAt (sendCell c j) () N))
/-- The chunks in the first pass: those below `a` sent, those from `a` below `b` being gathered, the others at rest. -/
def st1 (a b : ℕ) (j : Fin 8) : sProp 𝕄 :=
  if j.val < a then sent I c j else iprop(supply c j ∗ if j.val < b then flying I c hids j else fresh I c j)

theorem st1_first {a b : ℕ} {j : Fin 8} (h : j.val = a) (hb : a < b) : st1 I c hids a b j = iprop(supply c j ∗ flying I c hids j) := by
  unfold st1; rw [if_neg (by omega), if_pos (by omega)]
theorem st1_sent {a b : ℕ} {j : Fin 8} (h : j.val < a) : st1 I c hids a b j = sent I c j := by unfold st1; rw [if_pos h]
theorem st1_rest {a b : ℕ} {j : Fin 8} (ha : a ≤ j.val) (hb : b ≤ j.val) :
    st1 I c hids a b j = iprop(supply c j ∗ fresh I c j) := by
  unfold st1; rw [if_neg (by omega), if_neg (by omega)]
theorem st1_air {a b : ℕ} {j : Fin 8} (ha : a ≤ j.val) (hb : j.val < b) :
    st1 I c hids a b j = iprop(supply c j ∗ flying I c hids j) := by
  unfold st1; rw [if_neg (by omega), if_pos hb]

/-- Sending chunk `k` changes the state of that chunk alone. -/
theorem st1_next (k : Fin 8) (b : ℕ) : ∀ j, j ≠ k → st1 I c hids k.val b j = st1 I c hids (k.val + 1) b j := fun j hj => by
  have : j.val ≠ k.val := fun h => hj (Fin.ext h)
  unfold st1
  by_cases h : j.val < k.val
  · rw [if_pos h, if_pos (c := j.val < k.val + 1) (by omega)]
  · rw [if_neg h, if_neg (c := j.val < k.val + 1) (by omega)]
/-- Starting chunk `k` changes the state of that chunk alone. -/
theorem st1_start (k : Fin 8) (a : ℕ) : ∀ j, j ≠ k → st1 I c hids a k.val j = st1 I c hids a (k.val + 1) j := fun j hj => by
  have : j.val ≠ k.val := fun h => hj (Fin.ext h)
  unfold st1
  by_cases h : j.val < k.val
  · rw [if_pos (c := j.val < k.val) h, if_pos (c := j.val < k.val + 1) (by omega)]
  · rw [if_neg (c := j.val < k.val) h, if_neg (c := j.val < k.val + 1) (by omega)]
/-- With all chunks started there is none to start. -/
theorem st1_full {b : ℕ} (hb : 8 ≤ b) (a : ℕ) : st1 I c hids a b = st1 I c hids a (b + 1) := by
  funext j
  have := j.isLt
  unfold st1
  rw [if_pos (c := j.val < b) (by omega), if_pos (c := j.val < b + 1) (by omega)]

/-- Before chunk `k` of the first pass. -/
def pass1 (k : ℕ) : sProp 𝕄 :=
  iprop(invs I K c ∗ levAts L lv ∗ idsPts I c ∗ mskPts I c ∗ (∃ W, owes (c : Thread nD τ) (owed c k) W)
    ∗ bigSep Finset.univ (st1 I c hids k (k + 2)))

/-- Starting chunk `k`'s copies, the chunks below `k` started. -/
theorem start_run (a : ℕ) (k : Fin 8) (ha : a ≤ k.val) (Q : Unit → sProp 𝕄) :
    iprop(idsPts I c ∗ bigSep Finset.univ (st1 I c hids a k.val)
        ∗ (iprop(idsPts I c ∗ bigSep Finset.univ (st1 I c hids a (k.val + 1))) -∗ Q ⟨⟩))
      ⊢ wp frame (wpE (defs₀ (F := F)) 𝒱₀ c none) Set.univ (issue (F := F) idsM tabM outM cc0_scratch2 k) Q := by
  iintro ⟨Hi, HS, HQ⟩
  ihave HS := (fam_at _ _ k (st1_start I c hids k a)) $$ HS
  icases HS with ⟨Hk, Hback⟩
  ihave Hk := (Entails.of_eq (st1_rest I c hids ha le_rfl)) $$ Hk
  icases Hk with ⟨Hs, Hf⟩
  iapply (issue_run I c hids k Q) $$ [Hi Hs Hf Hback HQ]
  isplitl [Hi]; · iexact Hi
  isplitl [Hf]; · iexact Hf
  iintro ⟨Hi, Hf⟩
  iapply HQ
  isplitl [Hi]; · iexact Hi
  iapply Hback
  iapply (Entails.of_eq (st1_air I c hids ha (Nat.lt_succ_self k.val)).symm)
  isplitl [Hs] <;> iassumption

/-- A chunk's step in the first pass. -/
theorem chunk_run (j : Fin 8) :
    pass1 I K c hids j.val
      ⊢ wp frame (wpE (defs₀ (F := F)) 𝒱₀ c none) Set.univ
          (chunk (F := F) idsM mskM tabM outM sndM (Memref.isWhole_whole _) rcvM (Memref.isWhole_whole _) cc0_scratch2 cc0_scratch3 cc0_scratch4 (pr c) j)
          (fun _ => pass1 I K c hids (j.val + 1)) := by
  unfold pass1
  iintro ⟨#HI, #Hlev, Hi, Hm, HO, HS⟩
  ihave HI' := (invs_chunk I K c j) $$ HI
  unfold chunkInvs
  icases HI' with ⟨#HIs, #HIr, #HIp⟩
  ihave HS := (fam_at _ _ j (st1_next I c hids j (j.val + 2))) $$ HS
  icases HS with ⟨Hj, Hback⟩
  ihave Hj := (Entails.of_eq (st1_first I c hids rfl (by omega))) $$ Hj
  unfold supply
  icases Hj with ⟨⟨Hsnd, ⟨Hrcv, #HrR⟩, #HrS, HtS, HtR⟩, Hfly⟩
  unfold chunk
  simp only [wp_bind]
  iapply (drain_run I c hids j (owed c j.val))
  isplitl [HO]; · iexact HO
  isplitr; · iapply (mayWait c j.val (.dma (gathS j)) (by rw [lvl_gath]; decide)); iexact Hlev
  isplitl [Hfly]; · iexact Hfly
  iintro ⟨HO, Hland⟩
  unfold landed
  icases Hland with ⟨Ho, Hg, Ht⟩
  iapply (scale_run I c j)
  isplitl [Ho]; · iexact Ho
  isplitl [Hm]; · iexact Hm
  isplitl [Hsnd]; · iexact Hsnd
  iintro ⟨Ho, Hm, Hsnd⟩
  iapply (send_run I c j K)
  isplitr; · iexact HIs
  isplitr; · iexact HIp
  isplitl [Hsnd]; · iexact Hsnd
  isplitl [Hrcv]; · iexact Hrcv
  isplitl [HO]; · iexact HO
  isplitl [HtS]; · iexact HtS
  isplitr; · iexact HrS
  isplitl [HtR]; · iexact HtR
  isplitr; · iexact HrR
  iintro ⟨HcS, HO⟩
  ihave HS := Hback $$ [Ho Hg Ht HcS]
  · iapply (Entails.of_eq (st1_sent I c hids (Nat.lt_succ_self j.val)).symm)
    unfold sent
    isplitl [Ho]; · iexact Ho
    isplitl [Hg]; · iexact Hg
    isplitl [Ht] <;> iassumption
  by_cases h : j.val + 2 < 8
  · rw [dif_pos h]
    iapply (start_run I c hids (j.val + 1) ⟨j.val + 2, h⟩ (Nat.le_succ _))
    isplitl [Hi]; · iexact Hi
    isplitl [HS]; · iexact HS
    iintro ⟨Hi, HS⟩
    isplitr; · iexact HI
    isplitr; · iexact Hlev
    isplitl [Hi]; · iexact Hi
    isplitl [Hm]; · iexact Hm
    isplitl [HO]; · iexact HO
    iexact HS
  · rw [dif_neg h, Prog.pure_eq_ret, wp_ret]
    imodintro
    isplitr; · iexact HI
    isplitr; · iexact Hlev
    isplitl [Hi]; · iexact Hi
    isplitl [Hm]; · iexact Hm
    isplitl [HO]; · iexact HO
    iapply (Entails.of_eq (congrArg (bigSep Finset.univ) (st1_full I c hids (Nat.le_of_not_lt h) (j.val + 1))))
    iexact HS

/-! ## The second and the third pass -/

/-- A chunk before and after its step in the second pass. -/
def want (j : Fin 8) : sProp 𝕄 :=
  iprop(outPts c (chunkSet j) (scaled I c) ∗ cred (tallyAt (recvCell c j) () N) ∗ atPos ER (recvCell c j) 0 ∅ 0)
def got (j : Fin 8) : sProp 𝕄 :=
  iprop(outPts c (chunkSet j) (result I c) ∗ (∃ f, rcvPts c j f) ∗ atPos ER (recvCell c j) (0 + 1) ∅ 0)
/-- A chunk before and after its step in the third pass. -/
def away (j : Fin 8) : sProp 𝕄 := iprop(cred (tallyAt (sendCell c j) () N) ∗ atPos ER (sendCell c j) 0 ∅ 0)
def home (j : Fin 8) : sProp 𝕄 := iprop((∃ f, sndPts c j f) ∗ atPos ER (sendCell c j) (0 + 1) ∅ 0)

/-- A family of which the members below `k` have moved on. -/
def upTo (A B : Fin 8 → sProp 𝕄) (k : ℕ) (j : Fin 8) : sProp 𝕄 := if j.val < k then B j else A j
theorem upTo_next (A B : Fin 8 → sProp 𝕄) (k : Fin 8) : ∀ j, j ≠ k → upTo A B k.val j = upTo A B (k.val + 1) j := fun j hj => by
  have : j.val ≠ k.val := fun h => hj (Fin.ext h)
  unfold upTo
  by_cases h : j.val < k.val
  · rw [if_pos h, if_pos (by omega)]
  · rw [if_neg h, if_neg (by omega)]
theorem upTo_none (A B : Fin 8 → sProp 𝕄) : upTo A B 0 = A := by funext j; unfold upTo; rw [if_neg (Nat.not_lt_zero _)]
theorem upTo_all (A B : Fin 8 → sProp 𝕄) : upTo A B 8 = B := by funext j; unfold upTo; rw [if_pos j.isLt]
theorem upTo_step (A B : Fin 8 → sProp 𝕄) (k : Fin 8) :
    (bigSep Finset.univ (upTo A B k.val) : sProp 𝕄) ⊢ iprop(A k ∗ (B k -∗ bigSep Finset.univ (upTo A B (k.val + 1)))) := by
  refine (fam_at _ _ k (upTo_next A B k)).trans ?_
  have e1 : upTo A B k.val k = A k := if_neg (Nat.lt_irrefl _)
  have e2 : upTo A B (k.val + 1) k = B k := if_pos (Nat.lt_succ_self _)
  rw [e1, e2]

/-- Before chunk `k` of the second pass, and of the third. -/
def pass2 (k : ℕ) : sProp 𝕄 :=
  iprop(invs I K c ∗ (∃ W, owes (c : Thread nD τ) (0 : CellTallies nD τ sig Unit) W) ∗ bigSep Finset.univ (upTo (want I c) (got I c) k))
def pass3 (k : ℕ) : sProp 𝕄 :=
  iprop(invs I K c ∗ (∃ W, owes (c : Thread nD τ) (0 : CellTallies nD τ sig Unit) W) ∗ bigSep Finset.univ (upTo (away (F := F) c) (home c) k))

/-- A chunk's step in the second pass. -/
theorem recv_step (j : Fin 8) :
    pass2 I K c j.val
      ⊢ wp frame (wpE (defs₀ (F := F)) 𝒱₀ c none) Set.univ
          (recv (F := F) outM sndM (Memref.isWhole_whole _) rcvM (Memref.isWhole_whole _) cc0_scratch4 j)
          (fun _ => pass2 I K c (j.val + 1)) := by
  unfold pass2
  iintro ⟨#HI, HO, HS⟩
  ihave HI' := (invs_chunk I K c j) $$ HI
  unfold chunkInvs
  icases HI' with ⟨#HIs, #HIr, #HIp⟩
  ihave HS := (upTo_step (want I c) (got I c) j) $$ HS
  icases HS with ⟨Hj, Hback⟩
  unfold want
  icases Hj with ⟨Ho, Hc, Ha⟩
  iapply (recv_run I c j K)
  isplitr; · iexact HIr
  isplitl [Ho]; · iexact Ho
  isplitl [HO]; · iexact HO
  isplitl [Hc]; · iexact Hc
  isplitl [Ha]; · iexact Ha
  iintro ⟨Ho, Hr, HO, Ha⟩
  isplitr; · iexact HI
  isplitl [HO]; · iexact HO
  iapply Hback
  unfold got
  isplitl [Ho]; · iexact Ho
  isplitl [Hr] <;> iassumption

/-- A chunk's step in the third pass. -/
theorem waitSend_step (j : Fin 8) :
    pass3 I K c j.val
      ⊢ wp frame (wpE (defs₀ (F := F)) 𝒱₀ c none) Set.univ
          (waitSend (F := F) sndM (Memref.isWhole_whole _) rcvM (Memref.isWhole_whole _) cc0_scratch3 j)
          (fun _ => pass3 I K c (j.val + 1)) := by
  unfold pass3
  iintro ⟨#HI, HO, HS⟩
  ihave HI' := (invs_chunk I K c j) $$ HI
  unfold chunkInvs
  icases HI' with ⟨#HIs, #HIr, #HIp⟩
  ihave HS := (upTo_step (away (F := F) c) (home c) j) $$ HS
  icases HS with ⟨Hj, Hback⟩
  unfold away
  icases Hj with ⟨Hc, Ha⟩
  iapply (waitSend_run I c j K)
  isplitr; · iexact HIs
  isplitl [HO]; · iexact HO
  isplitl [Hc]; · iexact Hc
  isplitl [Ha]; · iexact Ha
  iintro ⟨Hs, HO, Ha⟩
  isplitr; · iexact HI
  isplitl [HO]; · iexact HO
  iapply Hback
  unfold home
  isplitl [Hs] <;> iassumption

/-! ## The body -/

/-- What the body starts from: the barrier's ghost state and credit; the inputs; each chunk's rows, its parts of both
    buffers, its ghost state and credit. -/
def bodyPre : sProp 𝕄 :=
  iprop(invs I K c ∗ levAts L lv
    ∗ iprop(atPos ER (barCell c) 0 ∅ 0 ∗ reached ER (barCell (pr c)) 0 ∗ dutyTok ER (barCell (pr c)) 0 () ∗ cred (tallyAt (barCell c) () 1))
    ∗ idsPts I c ∗ mskPts I c ∗ (∃ W, owes (c : Thread nD τ) (O₀ c) W)
    ∗ bigSep Finset.univ (fresh I c)
    ∗ bigSep Finset.univ (fun j => iprop(∃ f, sndPts c j f))
    ∗ bigSep Finset.univ (fun j => iprop((∃ f, rcvPts c j f) ∗ reached ER (recvCell c j) 0))
    ∗ bigSep Finset.univ (fun j => iprop(reached ER (sendCell c j) 0 ∗ dutyTok ER (sendCell c j) 0 () ∗ dutyTok ER (recvCell (pr c) j) 0 ()))
    ∗ bigSep Finset.univ (fun j => iprop(cred (tallyAt (recvCell c j) () N) ∗ atPos ER (recvCell c j) 0 ∅ 0))
    ∗ bigSep Finset.univ (fun j => atPos ER (sendCell c j) 0 ∅ 0))

/-- What it leaves: the inputs, the result's chunks, both buffers' chunks, every counter at zero, nothing owed. -/
def bodyPost : sProp 𝕄 :=
  iprop(semVal (barCell c) 0 ∗ idsPts I c ∗ mskPts I c ∗ (∃ W, owes (c : Thread nD τ) (0 : CellTallies nD τ sig Unit) W)
    ∗ bigSep Finset.univ (fun j => outPts c (chunkSet j) (result I c))
    ∗ bigSep Finset.univ (fun j => semVal (gathCell c j) 0)
    ∗ bigSep Finset.univ (fun j => tabPts I c (shareOf j))
    ∗ bigSep Finset.univ (fun j => iprop(∃ f, sndPts c j f))
    ∗ bigSep Finset.univ (fun j => iprop(∃ f, rcvPts c j f))
    ∗ bigSep Finset.univ (fun j => semVal (sendCell c j) 0)
    ∗ bigSep Finset.univ (fun j => semVal (recvCell c j) 0))

/-- The first pass starts from the chunks' rows, supplies and nothing sent. -/
theorem pass1_start :
    iprop(bigSep Finset.univ (fresh I c) ∗ bigSep Finset.univ (fun j => iprop(∃ f, sndPts c j f))
        ∗ bigSep Finset.univ (fun j => iprop((∃ f, rcvPts (pr c) j f) ∗ reached ER (recvCell (pr c) j) 0))
        ∗ bigSep Finset.univ (fun j => iprop(reached ER (sendCell c j) 0 ∗ dutyTok ER (sendCell c j) 0 () ∗ dutyTok ER (recvCell (pr c) j) 0 ())))
      ⊢ (bigSep Finset.univ (st1 I c hids 0 0) : sProp 𝕄) := by
  iintro ⟨Hf, Hs, Hr, Ht⟩
  ihave H := (bigSep_pair (ι := Fin 8)) $$ [Hr Ht]
  · isplitl [Hr] <;> iassumption
  ihave H := (bigSep_pair (ι := Fin 8)) $$ [Hs H]
  · isplitl [Hs] <;> iassumption
  ihave H := (bigSep_pair (ι := Fin 8)) $$ [H Hf]
  · isplitl [H] <;> iassumption
  iapply (show bigSep Finset.univ (fun j => iprop(supply c j ∗ fresh I c j)) ⊢ (bigSep Finset.univ (st1 I c hids 0 0) : sProp 𝕄) from
    bigSep_mono fun j _ => Entails.of_eq (st1_rest I c hids (Nat.zero_le _) (Nat.zero_le _)).symm)
  iexact H

/-- After the first pass: the scaled chunks, the gather counters and tokens, the send credits. -/
theorem pass1_end :
    (bigSep Finset.univ (st1 I c hids 8 (8 + 2)) : sProp 𝕄)
      ⊢ iprop(bigSep Finset.univ (fun j => outPts c (chunkSet j) (scaled I c)) ∗ bigSep Finset.univ (fun j => semVal (gathCell c j) 0)
          ∗ bigSep Finset.univ (fun j => tabPts I c (shareOf j)) ∗ bigSep Finset.univ (fun j => cred (tallyAt (sendCell c j) () N))) := by
  iintro H
  ihave H := (show (bigSep Finset.univ (st1 I c hids 8 (8 + 2)) : sProp 𝕄) ⊢ bigSep Finset.univ (fun j => iprop(outPts c (chunkSet j) (scaled I c)
      ∗ semVal (gathCell c j) 0 ∗ tabPts I c (shareOf j) ∗ cred (tallyAt (sendCell c j) () N))) from
    bigSep_mono fun j _ => Entails.of_eq (st1_sent I c hids j.isLt)) $$ H
  ihave H := (bigSep_unpair (ι := Fin 8)) $$ H
  icases H with ⟨H1, H⟩
  ihave H := (bigSep_unpair (ι := Fin 8)) $$ H
  icases H with ⟨H2, H⟩
  ihave H := (bigSep_unpair (ι := Fin 8)) $$ H
  icases H with ⟨H3, H4⟩
  isplitl [H1]; · iexact H1
  isplitl [H2]; · iexact H2
  isplitl [H3] <;> iassumption

/-- The send cells closed, and the receive cells. -/
theorem close_send :
    iprop(invs I K c ∗ bigSep Finset.univ (fun j => atPos ER (sendCell c j) (0 + 1) ∅ 0))
      ⊢ (|={Set.univ}=> bigSep Finset.univ (fun j => semVal (sendCell c j) 0) : sProp 𝕄) := by
  refine (bigSep_with_persistent (Ψ := fun j => iprop(|={Set.univ}=> semVal (sendCell c j) 0)) fun j _ => ?_).trans (bigSep_fupd _ _)
  iintro ⟨#HI, Ha⟩
  ihave HI' := (invs_chunk I K c j) $$ HI
  unfold chunkInvs
  icases HI' with ⟨#HIs, #HIr, #HIp⟩
  iapply (close I (K (sendCell c j)) (sendCell c j))
  isplitr; · iexact HIs
  iexact Ha
theorem close_recv :
    iprop(invs I K c ∗ bigSep Finset.univ (fun j => atPos ER (recvCell c j) (0 + 1) ∅ 0))
      ⊢ (|={Set.univ}=> bigSep Finset.univ (fun j => semVal (recvCell c j) 0) : sProp 𝕄) := by
  refine (bigSep_with_persistent (Ψ := fun j => iprop(|={Set.univ}=> semVal (recvCell c j) 0)) fun j _ => ?_).trans (bigSep_fupd _ _)
  iintro ⟨#HI, Ha⟩
  ihave HI' := (invs_chunk I K c j) $$ HI
  unfold chunkInvs
  icases HI' with ⟨#HIs, #HIr, #HIp⟩
  iapply (close I (K (recvCell c j)) (recvCell c j))
  isplitr; · iexact HIr
  iexact Ha

theorem one_word : (1#32 : BitVec 32).toInt = 1 := by decide

include hids in
set_option maxHeartbeats 800000 in
/-- The body, from a device's holdings to the result with everything given back. -/
theorem body_run (Q : Unit → sProp 𝕄) :
    iprop(bodyPre I K c ∗ (bodyPost I c -∗ Q ⟨⟩))
      ⊢ wp frame (wpE (defs₀ (F := F)) 𝒱₀ c none) Set.univ
          (body (F := F) idsM mskM tabM outM sndM (Memref.isWhole_whole _) rcvM (Memref.isWhole_whole _) cc0_scratch2 cc0_scratch3 cc0_scratch4) Q := by
  unfold bodyPre
  iintro ⟨⟨#HI, #Hlev, ⟨HaB, #HrP, HtP, HcB⟩, Hi, Hm, ⟨%W, HO⟩, Hf, Hs, Hr, Ht, Hwant, HaS⟩, HQ⟩
  ihave HI' := (show invs I K c ⊢ iprop(cellInv ER (sched I) (K (barCell c)) (barCell c)
      ∗ cellInv ER (sched I) (K (barCell (pr c))) (barCell (pr c)) ∗ bigSep Finset.univ (chunkInvs I K c)) from by unfold invs; exact .rfl) $$ HI
  icases HI' with ⟨#HIb, #HIbP, -⟩
  unfold body semSignalWord semWaitWord
  simp only [Prog.bind_lift, wp_bind, wp_deviceId, one_word]
  iapply (Rounds.wp_signal 𝒱₀ ER (sched I) (c : Thread nD τ) none (dst := (pr c : Thread nD τ)) (sem := barS) (r := 0) (d := ()) (κ := K (barCell (pr c)))
      (by rw [duties_bar]; exact Finset.mem_singleton_self _) (amount_bar I (pr c) ()) () (owed c 0) rfl) $$ [HO HtP Hr]
  · isplitr; · iexact HIbP
    isplitl [HO]; · iexact HO
    isplitl [HtP]; · iexact HtP
    isplitl [Hr]
    · rw [payload_bar]; unfold barPay; rw [pr_pr]; iexact Hr
    · iexact HrP
  iintro HO
  rw [wp_ret]
  imodintro
  iapply (Rounds.wp_wait_rest_token 𝒱₀ ER (sched I) (c : Thread nD τ) none (κ := K (barCell c))
      (wpE_semWait_eq 𝒱₀ (c : Thread nD τ) none Set.univ) (Set.mem_univ _) () (O := owed c 0) (W := W) (R := 0) (m := 0) (T := ∅)
      ((Nat.zero_add 1).trans (expect_bar I c).symm)) $$ [HcB HO HaB]
  · isplitr; · iexact HIb
    isplitl [HcB]; · iexact HcB
    isplitl [HO]; · iexact HO
    isplitr; · iapply (mayWait c 0 (.reg barS) le_rfl); iexact Hlev
    iexact HaB
  iintro ⟨HO, HaB, -, Hp⟩
  rw [wp_ret]
  imodintro
  ihave Hr := (Entails.of_eq ((rest_bar I c).trans (by unfold barPay; rfl))) $$ Hp
  ihave HS := (pass1_start I c hids) $$ [Hf Hs Hr Ht]
  · isplitl [Hf]; · iexact Hf
    isplitl [Hs]; · iexact Hs
    isplitl [Hr] <;> iassumption
  iapply (start_run I c hids 0 0 le_rfl)
  isplitl [Hi]; · iexact Hi
  isplitl [HS]; · iexact HS
  iintro ⟨Hi, HS⟩
  iapply (start_run I c hids 0 1 (Nat.zero_le _))
  isplitl [Hi]; · iexact Hi
  isplitl [HS]; · iexact HS
  iintro ⟨Hi, HS⟩
  iapply (inOrder_run c _ (pass1 I K c hids) (chunk_run I K c hids))
  isplitl [Hi Hm HO HS]
  · unfold pass1
    isplitr; · iexact HI
    isplitr; · iexact Hlev
    isplitl [Hi]; · iexact Hi
    isplitl [Hm]; · iexact Hm
    isplitl [HO]; · iexists _; iexact HO
    iexact HS
  unfold pass1
  iintro ⟨-, -, Hi, Hm, HO, HS⟩
  ihave HS := (pass1_end I c hids) $$ HS
  icases HS with ⟨Ho, Hg, Htab, HcS⟩
  rw [owed_end]
  ihave Hwant := (bigSep_pair (ι := Fin 8)) $$ [Ho Hwant]
  · isplitl [Ho] <;> iassumption
  imodintro
  iapply (inOrder_run c _ (pass2 I K c) (recv_step I K c))
  isplitl [HO Hwant]
  · unfold pass2
    rw [upTo_none]
    isplitr; · iexact HI
    isplitl [HO]; · iexact HO
    unfold want; iexact Hwant
  unfold pass2
  rw [upTo_all]
  iintro ⟨-, HO, HS⟩
  unfold got
  ihave HS := (bigSep_unpair (ι := Fin 8)) $$ HS
  icases HS with ⟨Ho, HS⟩
  ihave HS := (bigSep_unpair (ι := Fin 8)) $$ HS
  icases HS with ⟨Hr, HaR⟩
  ihave Haway := (bigSep_pair (ι := Fin 8)) $$ [HcS HaS]
  · isplitl [HcS] <;> iassumption
  imodintro
  iapply (inOrder_run c _ (pass3 I K c) (waitSend_step I K c))
  isplitl [HO Haway]
  · unfold pass3
    rw [upTo_none]
    isplitr; · iexact HI
    isplitl [HO]; · iexact HO
    unfold away; iexact Haway
  unfold pass3
  rw [upTo_all]
  iintro ⟨-, HO, HS⟩
  unfold home
  ihave HS := (bigSep_unpair (ι := Fin 8)) $$ HS
  icases HS with ⟨Hs, HaS⟩
  imod (close_send I K c) $$ [HaS] with Hs0
  · isplitr; · iexact HI
    iexact HaS
  imod (close_recv I K c) $$ [HaR] with Hr0
  · isplitr; · iexact HI
    iexact HaR
  imod (close I (K (barCell c)) (barCell c)) $$ [HaB] with Hb0
  · isplitr; · iexact HIb
    iexact HaB
  imodintro
  iapply HQ
  unfold bodyPost
  isplitl [Hb0]; · iexact Hb0
  isplitl [Hi]; · iexact Hi
  isplitl [Hm]; · iexact Hm
  isplitl [HO]; · iexact HO
  isplitl [Ho]; · iexact Ho
  isplitl [Hg]; · iexact Hg
  isplitl [Htab]; · iexact Htab
  isplitl [Hs]; · iexact Hs
  isplitl [Hr]; · iexact Hr
  isplitl [Hs0] <;> iassumption

end Run

end Cert.KernelIdeal.Steps

end
-- ==== Proof.KernelIdeal.Region.lean ====
/- The kernel region: what a device holds before and after the body, and the region's record.

   Before its one point the region holds the protocol's ghost state, the whole table block and both scratch buffers; after
   it the counters at zero, the table block and both scratch buffers. The row numbers and the mask come in through
   windows, the result leaves through one. -/
module

public import proofs.«01_k».proof.Proof.KernelIdeal.Body
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.Frame
public import Idealize.ShloMosaic.Lib.Pipeline.FrameBody

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Smoke (bigSep_pair bigSep_unpair)

variable {F : FTy → Type} [FloatOps F]

local notation "𝕄" => MT nD τ sig Unit (Elt F) ℕ UU ℕ

section Region

variable (I : Ins F)

/-! ## The invariant before and after the one point -/

/-- The table block, whole. -/
def tabWhole (c : Dev nD) : sProp 𝕄 := tabM.view.loc (c : Thread nD τ) ↦{fullShare} I.tab c
/-- The scratch buffers and the generator register, at any contents. -/
def scratch (c : Dev nD) : sProp 𝕄 :=
  iprop(((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)) ∗ ∃ r, prngReg c r)

/-- The protocol's state on one device once its send and receive cells are open. -/
def opened (K : GSem nD τ sig → ℕ) (c : Dev nD) : sProp 𝕄 :=
  iprop(invs I K c
    ∗ iprop(atPos ER (barCell c) 0 ∅ 0 ∗ reached ER (barCell (pr c)) 0 ∗ dutyTok ER (barCell (pr c)) 0 () ∗ cred (tallyAt (barCell c) () 1))
    ∗ bigSep Finset.univ (fun j => reached ER (recvCell c j) 0)
    ∗ bigSep Finset.univ (fun j => iprop(reached ER (sendCell c j) 0 ∗ dutyTok ER (sendCell c j) 0 () ∗ dutyTok ER (recvCell (pr c) j) 0 ()))
    ∗ bigSep Finset.univ (fun j => iprop(cred (tallyAt (recvCell c j) () N) ∗ atPos ER (recvCell c j) 0 ∅ 0))
    ∗ bigSep Finset.univ (fun j => atPos ER (sendCell c j) 0 ∅ 0))

/-- What enters the region. -/
def Xk (c : Dev nD) : sProp 𝕄 :=
  iprop((∃ K, opened I K c) ∗ levAts L lv ∗ bigSep Finset.univ (fun j => semVal (gathCell c j) 0))
/-- What leaves it beside the region's own counters. -/
def Yk (c : Dev nD) : sProp 𝕄 := semVal (barCell c) 0
/-- The region's own counters at zero. -/
def zeros (c : Dev nD) : sProp 𝕄 :=
  iprop(bigSep Finset.univ (fun j => semVal (gathCell c j) 0) ∗ bigSep Finset.univ (fun j => semVal (sendCell c j) 0)
    ∗ bigSep Finset.univ (fun j => semVal (recvCell c j) 0))

def Φ₀ (c : Dev nD) : sProp 𝕄 := iprop(Xk I c ∗ tabWhole I c ∗ scratch c)
def Φ₁ (c : Dev nD) : sProp 𝕄 := iprop(Yk c ∗ zeros c ∗ tabWhole I c ∗ scratch c)

variable (old : Dev nD → S1024x1024.Idx → Elt F .f32)

/-- The region's proof data. -/
def dat (c : Dev nD) : Dat τ (Elt F) Unit ℕ UU ℕ cfg0 c where
  A := fun | 0 => I.ids c | 1 => I.msk c | 2 => old c | ⟨_ + 3, h⟩ => absurd h (Nat.not_lt.2 (Nat.le_add_left _ _))
  after := fun | 0 => fun _ => I.ids c | 1 => fun _ => I.msk c | 2 => fun _ => result I c
               | ⟨_ + 3, h⟩ => absurd h (Nat.not_lt.2 (Nat.le_add_left _ _))
  Φ t := if t.val = 0 then Φ₀ I c else Φ₁ I c
  q _ := fullShare
  owed t := if t.val = 0 then O₀ c else 0

/-- The proof data of the program's one region. -/
def pdats : (p : Fin 1) → (c : Dev nD) → Dat τ (Elt F) Unit ℕ UU ℕ (cfgs p) c
  | 0 => dat I old

theorem owed_zero (c : Dev nD) : (dat I old c).owed 0 = O₀ c := by
  show (if (0 : Fin (grid0.N + 1)).val = 0 then O₀ c else 0) = O₀ c; exact if_pos rfl
theorem owed_first (c : Dev nD) : (dat I old c).owed (Fin.castSucc t0_0) = O₀ c := by
  show (if (Fin.castSucc t0_0).val = 0 then O₀ c else 0) = O₀ c; exact if_pos rfl
theorem owed_last (c : Dev nD) : (dat I old c).owed (Fin.last _) = 0 := by
  show (if (Fin.last grid0.N).val = 0 then O₀ c else 0) = 0
  rw [Fin.val_last, if_neg (by rw [N_0]; decide)]
theorem owed_second (c : Dev nD) : (dat I old c).owed (Fin.succ t0_0) = 0 := by
  show (if (Fin.succ t0_0).val = 0 then O₀ c else 0) = 0
  rw [if_neg (by rw [Fin.val_succ]; omega)]

/-- The row numbers' and the mask's windows read their whole arrays. -/
theorem blk0_emb (i : S1024.Idx) : ((cfg0.win 0).blk t0_0).view.emb i = i := by
  funext a
  fin_cases a
  refine Fin.ext ?_
  show 0 * 1024 + 1 * (i 0).val = (i 0).val
  omega
theorem blk1_emb (i : S1024x1.Idx) : ((cfg0.win 1).blk t0_0).view.emb i = i := by
  funext a
  fin_cases a
  · refine Fin.ext ?_
    show 0 * 1024 + 1 * (i 0).val = (i 0).val
    omega
  · refine Fin.ext ?_
    show 0 * 1 + 1 * (i 1).val = (i 1).val
    omega
theorem before_0 (c : Dev nD) (d) : (dat I old c).before 0 t0_0 d = I.ids c := by
  rw [(dat I old c).before_fetched 0 t0_0 (fetch0_0 t0_0) d]
  show (dat I old c).blockOf 0 t0_0 = I.ids c
  funext i
  show I.ids c (((cfg0.win 0).blk t0_0).view.emb i) = I.ids c i
  rw [blk0_emb]
theorem before_1 (c : Dev nD) (d) : (dat I old c).before 1 t0_0 d = I.msk c := by
  rw [(dat I old c).before_fetched 1 t0_0 (fetch0_1 t0_0) d]
  show (dat I old c).blockOf 1 t0_0 = I.msk c
  funext i
  show I.msk c (((cfg0.win 1).blk t0_0).view.emb i) = I.msk c i
  rw [blk1_emb]

theorem arr_0 (c : Dev nD) (n : ℕ) : (dat I old c).arrAt 0 n = I.ids c := (dat I old c).arrAt_in 0 rfl n
theorem arr_1 (c : Dev nD) (n : ℕ) : (dat I old c).arrAt 1 n = I.msk c := (dat I old c).arrAt_in 1 rfl n
/-- The result's window writes back its whole array. -/
theorem blk_emb (i : S1024x1024.Idx) : ((cfg0.win 2).blk t0_0).view.emb i = i := by
  funext a
  fin_cases a
  · refine Fin.ext ?_
    show 0 * 1024 + 1 * (i 0).val = (i 0).val
    omega
  · refine Fin.ext ?_
    show 0 * 1024 + 1 * (i 1).val = (i 1).val
    omega
theorem arr_2 (c : Dev nD) : (dat I old c).arrAt 2 1 = result I c := by
  refine ((dat I old c).arrAt_succ 2 t0_0).trans ?_
  rw [if_pos (flush0_2 t0_0)]
  funext i
  have h := View.write_emb_of_mem (Val := Elt F) (v := ((cfg0.win 2).blk t0_0).view) ((dat I old c).arrAt 2 (t0_0 : Fin cfg0.N))
    ((dat I old c).flushed 2 t0_0) (M := Finset.univ) (Finset.mem_univ i)
  rw [blk_emb] at h
  exact h

/-! ## The body at its point -/

theorem owes_in (c : Dev nD) :
    (dat I old c).owesAt () (Fin.castSucc t0_0) ⊢ (iprop(∃ W, owes (c : Thread nD τ) (O₀ c) W) : sProp 𝕄) := by
  unfold Dat.owesAt Pipeline.owesWithin
  rw [owed_first]
  iintro ⟨%W, -, HO⟩
  iexists W
  iexact HO
theorem owes_out (c : Dev nD) (W : Waits sig Unit) :
    (owes (c : Thread nD τ) (0 : CellTallies nD τ sig Unit) W : sProp 𝕄) ⊢ (dat I old c).owesAt () (Fin.succ t0_0) := by
  unfold Dat.owesAt Pipeline.owesWithin Dat.bound
  rw [owed_second]
  iintro HO
  iexists W
  isplitr; · ipureintro; exact fun _ _ => Or.inl trivial
  iexact HO

/-- A buffer of rows held whole is its chunks, and chunks at any contents make it whole again. -/
theorem out_chunks (c : Dev nD) (f : S1024x1024.Idx → Elt F .f32) :
    (outM.view.loc (c : Thread nD τ) ↦{fullShare} f : sProp 𝕄) = bigSep Finset.univ fun j => outPts c (chunkSet j) f :=
  Ring.pointsTo_blocks (ℓ := outM.view.loc (c : Thread nD τ)) chunkSet rows_disjoint rows_cover f
theorem snd_chunks (c : Dev nD) (f : S1024x1024.Idx → Elt F .bf16) :
    (sndM.view.loc (c : Thread nD τ) ↦{fullShare} f : sProp 𝕄) ⊢ bigSep Finset.univ fun j => iprop(∃ f, sndPts c j f) := by
  refine (Entails.of_eq (Ring.pointsTo_blocks (ℓ := sndM.view.loc (c : Thread nD τ)) chunkSet rows_disjoint rows_cover f)).trans ?_
  refine bigSep_mono fun j _ => ?_
  show (sndM.view.loc (c : Thread nD τ) ↦[chunkSet j]{fullShare} f : sProp 𝕄) ⊢ iprop(∃ f, sndPts c j f)
  iintro H
  iexists f
  iapply (Entails.of_eq (sndPts_eq c j f).symm)
  iexact H
theorem rcv_chunks (c : Dev nD) (f : S1024x1024.Idx → Elt F .bf16) :
    (rcvM.view.loc (c : Thread nD τ) ↦{fullShare} f : sProp 𝕄) ⊢ bigSep Finset.univ fun j => iprop(∃ f, rcvPts c j f) := by
  refine (Entails.of_eq (Ring.pointsTo_blocks (ℓ := rcvM.view.loc (c : Thread nD τ)) chunkSet rows_disjoint rows_cover f)).trans ?_
  refine bigSep_mono fun j _ => ?_
  show (rcvM.view.loc (c : Thread nD τ) ↦[chunkSet j]{fullShare} f : sProp 𝕄) ⊢ iprop(∃ f, rcvPts c j f)
  iintro H
  iexists f
  iapply (Entails.of_eq (rcvPts_eq c j f).symm)
  iexact H
theorem snd_whole (c : Dev nD) (f₀ : S1024x1024.Idx → Elt F .bf16) :
    (bigSep Finset.univ fun j => iprop(∃ f, sndPts c j f)) ⊢ (iprop(∃ f, sndM.view.loc (c : Thread nD τ) ↦{fullShare} f) : sProp 𝕄) := by
  refine BIBase.Entails.trans (bigSep_mono fun j _ => ?_)
    (Ring.pointsTo_blocks_join_exists (ℓ := sndM.view.loc (c : Thread nD τ)) chunkSet rows_disjoint rows_cover f₀)
  show (iprop(∃ f, sndPts c j f) : sProp 𝕄) ⊢ iprop(∃ f, sndM.view.loc (c : Thread nD τ) ↦[chunkSet j]{fullShare} f)
  iintro ⟨%f, H⟩
  iexists f
  iapply (Entails.of_eq (sndPts_eq c j f))
  iexact H
theorem rcv_whole (c : Dev nD) (f₀ : S1024x1024.Idx → Elt F .bf16) :
    (bigSep Finset.univ fun j => iprop(∃ f, rcvPts c j f)) ⊢ (iprop(∃ f, rcvM.view.loc (c : Thread nD τ) ↦{fullShare} f) : sProp 𝕄) := by
  refine BIBase.Entails.trans (bigSep_mono fun j _ => ?_)
    (Ring.pointsTo_blocks_join_exists (ℓ := rcvM.view.loc (c : Thread nD τ)) chunkSet rows_disjoint rows_cover f₀)
  show (iprop(∃ f, rcvPts c j f) : sProp 𝕄) ⊢ iprop(∃ f, rcvM.view.loc (c : Thread nD τ) ↦[chunkSet j]{fullShare} f)
  iintro ⟨%f, H⟩
  iexists f
  iapply (Entails.of_eq (rcvPts_eq c j f))
  iexact H

/-- The part of the table block's share no chunk takes. -/
def tabRest (c : Dev nD) : sProp 𝕄 := tabPts I c (Transfers.shareDrop fullShare 8)
theorem tab_split (c : Dev nD) : tabWhole I c ⊢ (iprop(tabRest I c ∗ bigSep Finset.univ fun j => tabPts I c (shareOf j)) : sProp 𝕄) :=
  (Transfers.pointsTo_toks (ℓ := tabM.view.loc (c : Thread nD τ)) (S := Finset.univ) (f := I.tab c) fullShare 8).1
theorem tab_join (c : Dev nD) : iprop(tabRest I c ∗ bigSep Finset.univ fun j => tabPts I c (shareOf j)) ⊢ (tabWhole I c : sProp 𝕄) :=
  (Transfers.pointsTo_toks (ℓ := tabM.view.loc (c : Thread nD τ)) (S := Finset.univ) (f := I.tab c) fullShare 8).2

/-- The chunks' rows, counters and table shares, from the three families. -/
theorem fresh_intro (c : Dev nD) (f : S1024x1024.Idx → Elt F .f32) :
    iprop((outM.view.loc (c : Thread nD τ) ↦{fullShare} f) ∗ bigSep Finset.univ (fun j => semVal (gathCell c j) 0)
        ∗ bigSep Finset.univ (fun j => tabPts I c (shareOf j)))
      ⊢ (bigSep Finset.univ (fresh I c) : sProp 𝕄) := by
  rw [out_chunks]
  iintro ⟨Ho, Hg, Ht⟩
  ihave H := (bigSep_pair (ι := Fin 8)) $$ [Hg Ht]
  · isplitl [Hg] <;> iassumption
  ihave H := (bigSep_pair (ι := Fin 8)) $$ [Ho H]
  · isplitl [Ho] <;> iassumption
  iapply (show bigSep Finset.univ (fun j => iprop(outPts c (chunkSet j) f ∗ semVal (gathCell c j) 0 ∗ tabPts I c (shareOf j)))
      ⊢ (bigSep Finset.univ (fresh I c) : sProp 𝕄) from bigSep_mono fun j _ => by
    show (iprop(outPts c (chunkSet j) f ∗ semVal (gathCell c j) 0 ∗ tabPts I c (shareOf j)) : sProp 𝕄)
      ⊢ iprop((∃ f, outPts c (chunkSet j) f) ∗ semVal (gathCell c j) 0 ∗ tabPts I c (shareOf j))
    iintro ⟨H1, H2, H3⟩
    isplitl [H1]; · iexists f; iexact H1
    isplitl [H2] <;> iassumption)
  iexact H

/-- The region's holdings before the point, with the windows' buffers, are the body's. -/
theorem pre_intro (c : Dev nD) (K : GSem nD τ sig → ℕ) (fo : S1024x1024.Idx → Elt F .f32) :
    iprop(opened I K c ∗ levAts L lv ∗ bigSep Finset.univ (fun j => semVal (gathCell c j) 0)
        ∗ bigSep Finset.univ (fun j => tabPts I c (shareOf j))
        ∗ (∃ f, sndM.view.loc (c : Thread nD τ) ↦{fullShare} f) ∗ (∃ f, rcvM.view.loc (c : Thread nD τ) ↦{fullShare} f)
        ∗ (∃ W, owes (c : Thread nD τ) (O₀ c) W) ∗ idsPts I c ∗ mskPts I c ∗ (outM.view.loc (c : Thread nD τ) ↦{fullShare} fo))
      ⊢ (bodyPre I K c : sProp 𝕄) := by
  unfold opened bodyPre
  iintro ⟨⟨#HI, HB, Hr, Ht, Hw, HaS⟩, #Hlev, Hg, Htab, ⟨%fs, Hs⟩, ⟨%fr, Hrc⟩, HO, Hi, Hm, Ho⟩
  ihave Hs := (snd_chunks c fs) $$ Hs
  ihave Hrc := (rcv_chunks c fr) $$ Hrc
  ihave Hf := (fresh_intro I c fo) $$ [Ho Hg Htab]
  · isplitl [Ho]; · iexact Ho
    isplitl [Hg] <;> iassumption
  isplitr; · iexact HI
  isplitr; · iexact Hlev
  isplitl [HB]; · iexact HB
  isplitl [Hi]; · iexact Hi
  isplitl [Hm]; · iexact Hm
  isplitl [HO]; · iexact HO
  isplitl [Hf]; · iexact Hf
  isplitl [Hs]; · iexact Hs
  isplitl [Hrc Hr]
  · iapply (bigSep_pair (ι := Fin 8))
    isplitl [Hrc] <;> iassumption
  isplitl [Ht]; · iexact Ht
  isplitl [Hw] <;> iassumption

/-- What the body leaves is the region's holdings after the point, with the windows' buffers. -/
theorem post_elim (c : Dev nD) :
    iprop(bodyPost I c ∗ tabRest I c ∗ ∃ r, prngReg c r)
      ⊢ (iprop(Φ₁ I c ∗ (∃ W, owes (c : Thread nD τ) (0 : CellTallies nD τ sig Unit) W) ∗ idsPts I c ∗ mskPts I c
          ∗ (outM.view.loc (c : Thread nD τ) ↦{fullShare} result I c)) : sProp 𝕄) := by
  unfold bodyPost Φ₁ Yk zeros scratch
  rw [out_chunks]
  iintro ⟨⟨Hb, Hi, Hm, HO, Ho, Hg, Htab, Hs, Hr, Hs0, Hr0⟩, Hrest, Hp⟩
  ihave Hs := (snd_whole c (rounded I c)) $$ Hs
  ihave Hr := (rcv_whole c (rounded I c)) $$ Hr
  ihave Htab := (tab_join I c) $$ [Hrest Htab]
  · isplitl [Hrest] <;> iassumption
  isplitl [Hb Hg Hs0 Hr0 Htab Hs Hr Hp]
  · isplitl [Hb]; · iexact Hb
    isplitl [Hg Hs0 Hr0]
    · isplitl [Hg]; · iexact Hg
      isplitl [Hs0] <;> iassumption
    isplitl [Htab]; · iexact Htab
    isplitl [Hs Hr]
    · isplitl [Hs] <;> iassumption
    iexact Hp
  isplitl [HO]; · iexact HO
  isplitl [Hi]; · iexact Hi
  isplitl [Hm] <;> iassumption

variable (hids : ∀ c i, k0_chk1 (I.ids c i))

include hids in
theorem body_at (c : Dev nD) (fo : S1024x1024.Idx → Elt F .f32) :
    iprop(Φ₀ I c ∗ (dat I old c).owesAt () (Fin.castSucc t0_0) ∗ idsPts I c ∗ mskPts I c ∗ (outM.view.loc (c : Thread nD τ) ↦{fullShare} fo))
      ⊢ wp frame (wpE (defs₀ (F := F)) 𝒱₀ c none) Set.univ (bodyAt0 (F := F) t0_0) fun _ =>
          iprop(Φ₁ I c ∗ (dat I old c).owesAt () (Fin.succ t0_0) ∗ idsPts I c ∗ mskPts I c
            ∗ (outM.view.loc (c : Thread nD τ) ↦{fullShare} result I c)) := by
  unfold bodyAt0
  rw [body_eq]
  unfold Φ₀ Xk scratch
  iintro ⟨⟨⟨⟨%K, Hop⟩, #Hlev, Hg⟩, Htab, ⟨Hs, Hr⟩, Hp⟩, HO, Hi, Hm, Ho⟩
  ihave HO := (owes_in I old c) $$ HO
  ihave Htab := (tab_split I c) $$ Htab
  icases Htab with ⟨Hrest, Htab⟩
  iapply (body_run I K c (hids c) _)
  isplitl [Hop Hg Htab Hs Hr HO Hi Hm Ho]
  · iapply (pre_intro I c K fo)
    isplitl [Hop]; · iexact Hop
    isplitr; · iexact Hlev
    isplitl [Hg]; · iexact Hg
    isplitl [Htab]; · iexact Htab
    isplitl [Hs]; · iexact Hs
    isplitl [Hr]; · iexact Hr
    isplitl [HO]; · iexact HO
    isplitl [Hi]; · iexact Hi
    isplitl [Hm] <;> iassumption
  iintro Hpost
  ihave H := (post_elim I c) $$ [Hpost Hrest Hp]
  · isplitl [Hpost]; · iexact Hpost
    isplitl [Hrest] <;> iassumption
  icases H with ⟨HΦ, ⟨%W, HO⟩, Hi, Hm, Ho⟩
  isplitl [HΦ]; · iexact HΦ
  isplitl [HO]
  · iapply (owes_out I old c W)
    iexact HO
  isplitl [Hi]; · iexact Hi
  isplitl [Hm] <;> iassumption

include hids in
/-- The body obligation at the region's one point. -/
theorem obligation (c : Dev nD) : BodyObligation (dat I old c) (defs₀ (F := F)) 𝒱₀ () Set.univ := fun t => by
  obtain rfl := fin_N0 t
  rw [bigSep_W0, bigSep_W0]
  rw [show (dat I old c).Φ (Fin.castSucc t0_0) = Φ₀ I c from rfl, show (dat I old c).Φ (Fin.succ t0_0) = Φ₁ I c from rfl]
  show iprop(Φ₀ I c ∗ (dat I old c).owesAt () (Fin.castSucc t0_0)
      ∗ (∃ d, owns (c : Thread nD τ) idsM fullShare ((dat I old c).before 0 t0_0 d))
      ∗ (∃ d, owns (c : Thread nD τ) mskM fullShare ((dat I old c).before 1 t0_0 d))
      ∗ (∃ d, owns (c : Thread nD τ) outM fullShare ((dat I old c).before 2 t0_0 d)))
    ⊢ wp frame (wpE (defs₀ (F := F)) 𝒱₀ c none) Set.univ (bodyAt0 (F := F) t0_0) fun _ =>
        iprop(Φ₁ I c ∗ (dat I old c).owesAt () (Fin.succ t0_0)
          ∗ owns (c : Thread nD τ) idsM fullShare (I.ids c) ∗ owns (c : Thread nD τ) mskM fullShare (I.msk c)
          ∗ owns (c : Thread nD τ) outM fullShare (result I c))
  simp only [before_0, before_1, owns_whole]
  iintro ⟨HΦ, HO, ⟨%d0, H0⟩, ⟨%d1, H1⟩, ⟨%d2, H2⟩⟩
  iapply (body_at I old hids c ((dat I old c).before 2 t0_0 d2))
  isplitl [HΦ]; · iexact HΦ
  isplitl [HO]; · iexact HO
  isplitl [H0]; · iexact H0
  isplitl [H1] <;> iassumption

end Region

end Cert.KernelIdeal.Steps

end
-- ==== Proof.KernelIdeal.Ghost.lean ====
/- The ghost state at launch: every cell's invariant under one map of names, the rights to open the send and receive
   cells, the duties' tokens handed to the devices that pay them, and the launch credits. -/
module

public import proofs.«01_k».proof.Proof.KernelIdeal.Region

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

/-! ## The cells and the launch element -/

/-- A chunk's two cells of the protocol: the one it is sent from and the one it is received on. -/
def sideS : Fin 2 → Fin 8 → DmaSem sig
  | 0 => sendS
  | 1 => recvS

theorem sideS_inj : Function.Injective fun k : Fin 2 × Fin 8 => sideS k.1 k.2 := by decide

def barEmb : Dev nD ↪ GSem nD τ sig := ⟨fun c => barCell c, fun _ _ h => congrArg (fun g : GSem nD τ sig => g.1.1) h⟩
theorem side_loc_inj : Function.Injective fun k : Fin 2 × Fin 8 => (SemLoc.dma (sideS k.1 k.2) : SemLoc sig) :=
  fun _ _ h => sideS_inj (SemLoc.dma.inj h)
def sideEmb : Dev nD × Fin 2 × Fin 8 ↪ GSem nD τ sig :=
  ⟨fun ck => ((ck.1 : Thread nD τ), .dma (sideS ck.2.1 ck.2.2)), fun _ _ h =>
    Prod.ext (congrArg (fun g : GSem nD τ sig => g.1.1) h) (side_loc_inj (congrArg Prod.snd h))⟩

/-- The barrier cells, funded from their counters. -/
abbrev barCells : Finset (GSem nD τ sig) := Finset.univ.map barEmb
/-- The send and receive cells, to be opened later. -/
abbrev sideCells : Finset (GSem nD τ sig) := Finset.univ.map sideEmb

/-- The semaphores of the duties: the barrier, the send and the receive cells. -/
def dutyS : Unit ⊕ (Fin 2 × Fin 8) → SemLoc sig
  | .inl _ => .reg barS
  | .inr k => .dma (sideS k.1 k.2)
theorem dutyS_inj : Function.Injective dutyS := by
  rintro (a | a) (b | b) h
  · rfl
  · cases h
  · cases h
  · exact congrArg Sum.inr (side_loc_inj h)
/-- Every cell's one duty. -/
def talkToks : Finset (GSem nD τ sig × ℕ × Unit) :=
  Finset.univ.map ⟨fun ck : Dev nD × (Unit ⊕ (Fin 2 × Fin 8)) => (((ck.1 : Thread nD τ), dutyS ck.2), 0, ()), fun _ _ h =>
    Prod.ext (congrArg (fun t : GSem nD τ sig × ℕ × Unit => t.1.1.1) h)
      (dutyS_inj (congrArg (fun t : GSem nD τ sig × ℕ × Unit => t.1.2) h))⟩

theorem disjoint_cells : Disjoint (barCells : Finset (GSem nD τ sig)) sideCells := by
  rw [Finset.disjoint_left]
  rintro g h₁ h₂
  obtain ⟨c, -, rfl⟩ := Finset.mem_map.mp h₁
  obtain ⟨ck, -, h⟩ := Finset.mem_map.mp h₂
  cases congrArg Prod.snd h

theorem bar_mem (c : Dev nD) : barCell c ∈ (barCells ∪ sideCells : Finset (GSem nD τ sig)) :=
  Finset.mem_union_left _ (Finset.mem_map_of_mem barEmb (Finset.mem_univ c))
theorem send_mem (c : Dev nD) (j : Fin 8) : sendCell c j ∈ (barCells ∪ sideCells : Finset (GSem nD τ sig)) :=
  Finset.mem_union_right _ (Finset.mem_map_of_mem sideEmb (Finset.mem_univ (c, (0 : Fin 2), j)))
theorem recv_mem (c : Dev nD) (j : Fin 8) : recvCell c j ∈ (barCells ∪ sideCells : Finset (GSem nD τ sig)) :=
  Finset.mem_union_right _ (Finset.mem_map_of_mem sideEmb (Finset.mem_univ (c, (1 : Fin 2), j)))

/-- The launch element: the pipeline's, the protocol's, and no counter. -/
def u₀ : UU :=
  (initOf (Pipeline.cells cfgs cellOf_inj) (Pipeline.launchToks cfgs cellOf_inj), (launchOf barCells sideCells talkToks, 1))

theorem u₀_split : (ownU u₀ : sProp 𝕄)
    ⊢ iprop(BI.own (EP (F := F) (initOf (Pipeline.cells cfgs cellOf_inj) (Pipeline.launchToks cfgs cellOf_inj)))
        ∗ BI.own (ER (F := F) (launchOf barCells sideCells talkToks))) := by
  unfold u₀
  exact ownU_pair _ _

/-- A resource held by one device. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev
  rw [if_pos rfl]
  exact BI.equiv_iff.mp sep_emp

/-- The protocol's launch element, whole, on device 0. -/
def G : Dev nD → sProp 𝕄 := onDev 0 (BI.own (ER (launchOf barCells sideCells talkToks)))

/-! ## What each device starts from -/

variable (I : Ins F)

/-- The ghost state of a device before its send and receive cells are open. -/
def ghost (K : GSem nD τ sig → ℕ) (c : Dev nD) : sProp 𝕄 :=
  iprop(invs I K c ∗ atPos ER (barCell c) 0 ∅ 0 ∗ reached ER (barCell (pr c)) 0
    ∗ (bigSep Finset.univ (fun j => openTok ER (sendCell c j)) ∗ bigSep Finset.univ (fun j => openTok ER (recvCell c j)))
    ∗ (dutyTok ER (barCell (pr c)) 0 () ∗ bigSep Finset.univ (fun j => dutyTok ER (sendCell c j) 0 ())
        ∗ bigSep Finset.univ (fun j => dutyTok ER (recvCell (pr c) j) 0 ())))

/-- What every device may consult: all the invariants, and that the barrier cells stand at their first round. -/
def records (κ : GSem nD τ sig → ℕ) : sProp 𝕄 :=
  iprop((bigSep (barCells ∪ sideCells) fun g => cellInv ER (sched I) (κ g) g) ∗ bigSep barCells fun g => reached ER g 0)
instance records_persistent (κ : GSem nD τ sig → ℕ) : BI.Persistent (records I κ) := by unfold records; infer_instance

theorem inv_at (κ : GSem nD τ sig → ℕ) {g : GSem nD τ sig} (hg : g ∈ (barCells ∪ sideCells : Finset (GSem nD τ sig))) :
    records I κ ⊢ cellInv ER (sched I) (κ g) g := by
  unfold records
  iintro ⟨H, -⟩
  iapply (show (bigSep (barCells ∪ sideCells) fun g => (cellInv ER (sched I) (κ g) g : sProp 𝕄)) ⊢ cellInv ER (sched I) (κ g) g
    from bigSep_elim hg) $$ H
theorem reached_at (κ : GSem nD τ sig → ℕ) (c : Dev nD) : records I κ ⊢ reached ER (barCell c) 0 := by
  unfold records
  iintro ⟨-, H⟩
  iapply (show (bigSep barCells fun g => (reached ER g 0 : sProp 𝕄)) ⊢ reached ER (barCell c) 0
    from bigSep_elim (Finset.mem_map_of_mem barEmb (Finset.mem_univ c))) $$ H

/-- What only one device holds: its place on its barrier cell, its rights to open, the tokens of the duties it pays. -/
def linear (c : Dev nD) : sProp 𝕄 :=
  iprop(atPos ER (barCell c) 0 ∅ 0
    ∗ (bigSep Finset.univ (fun j => openTok ER (sendCell c j)) ∗ bigSep Finset.univ (fun j => openTok ER (recvCell c j)))
    ∗ (dutyTok ER (barCell (pr c)) 0 () ∗ bigSep Finset.univ (fun j => dutyTok ER (sendCell c j) 0 ())
        ∗ bigSep Finset.univ (fun j => dutyTok ER (recvCell (pr c) j) 0 ())))

theorem chunk_records (κ : GSem nD τ sig → ℕ) (c : Dev nD) (j : Fin 8) : records I κ ⊢ chunkInvs I κ c j := by
  unfold chunkInvs
  iintro #H
  isplitr; · iapply (inv_at I κ (send_mem c j)); iexact H
  isplitr; · iapply (inv_at I κ (recv_mem c j)); iexact H
  iapply (inv_at I κ (recv_mem (pr c) j)); iexact H

/-- A persistent fact that gives every member of a family gives the family. -/
theorem spread {R : sProp 𝕄} [BI.Persistent R] (Φ : Fin 8 → sProp 𝕄) (h : ∀ j, R ⊢ Φ j) : R ⊢ bigSep Finset.univ Φ := by
  have h' : iprop(R ∗ bigSep Finset.univ (fun _ : Fin 8 => (BI.emp : sProp 𝕄))) ⊢ bigSep Finset.univ Φ :=
    bigSep_with_persistent (R := R) (Φ := fun _ : Fin 8 => (BI.emp : sProp 𝕄)) fun j _ => by
      iintro ⟨H, -⟩
      iapply (h j)
      iexact H
  rw [BI.bigSep_emp_const] at h'
  iintro H
  iapply h'
  isplitl [H]; · iexact H
  iempintro

theorem ghost_intro (κ : GSem nD τ sig → ℕ) (c : Dev nD) : iprop(records I κ ∗ linear c) ⊢ iprop(∃ K, ghost I K c) := by
  unfold linear ghost invs
  iintro ⟨#HR, HaB, Ho, Ht⟩
  iexists κ
  isplitr
  · isplitr; · iapply (inv_at I κ (bar_mem c)); iexact HR
    isplitr; · iapply (inv_at I κ (bar_mem (pr c))); iexact HR
    iapply (spread (R := records I κ) (chunkInvs I κ c) fun j => chunk_records I κ c j)
    iexact HR
  isplitl [HaB]; · iexact HaB
  isplitr; · iapply (reached_at I κ (pr c)); iexact HR
  isplitl [Ho] <;> iassumption

/-! ## The tokens -/

def toks (c : Dev nD) : sProp 𝕄 :=
  iprop(dutyTok ER (barCell c) 0 () ∗ bigSep Finset.univ (fun j => dutyTok ER (sendCell c j) 0 ())
    ∗ bigSep Finset.univ (fun j => dutyTok ER (recvCell c j) 0 ()))

/-- A family over the two cells of every chunk is one over the send cells and one over the receive cells. -/
theorem sides (Φ : SemLoc sig → sProp 𝕄) :
    bigSep Finset.univ (fun k : Fin 2 × Fin 8 => Φ (.dma (sideS k.1 k.2)))
      = iprop(bigSep Finset.univ (fun j => Φ (.dma (sendS j))) ∗ bigSep Finset.univ (fun j => Φ (.dma (recvS j)))) := by
  rw [bigSep_univ_prod]
  exact BI.bigSep_fin_two fun k : Fin 2 => bigSep Finset.univ fun j => Φ (.dma (sideS k j))

theorem toks_eq : bigSep talkToks (fun x => (dutyTok ER x.1 x.2.1 x.2.2 : sProp 𝕄)) = bigSep Finset.univ fun c : Dev nD => toks c := by
  unfold talkToks
  rw [bigSep_map, bigSep_univ_prod]
  refine bigSep_congr fun c _ => ?_
  rw [bigSep_univ_sum, bigSep_univ_of_subsingleton ()]
  unfold toks
  rw [← sides fun sm => (dutyTok ER ((c : Thread nD τ), sm) 0 () : sProp 𝕄)]
  rfl

/-- The barrier and receive tokens go to the partner. -/
theorem toks_around :
    (bigSep Finset.univ fun c : Dev nD => (toks c : sProp 𝕄))
      ⊢ bigSep Finset.univ fun c : Dev nD => iprop(dutyTok ER (barCell (pr c)) 0 ()
          ∗ bigSep Finset.univ (fun j => dutyTok ER (sendCell c j) 0 ()) ∗ bigSep Finset.univ (fun j => dutyTok ER (recvCell (pr c) j) 0 ())) := by
  unfold toks
  rw [bigSep_sep', bigSep_sep', bigSep_sep', bigSep_sep', bigSep_univ_equiv prEquiv (fun c : Dev nD => (dutyTok ER (barCell c) 0 () : sProp 𝕄)),
    bigSep_univ_equiv prEquiv (fun c : Dev nD => (bigSep Finset.univ (fun j => dutyTok ER (recvCell c j) 0 ()) : sProp 𝕄))]
  exact BI.Entails.refl _

/-! ## The launch credits -/

theorem dev_of_cell {d c : Dev nD} {s s' : SemLoc sig} (h : (((c : Thread nD τ), s) : GSem nD τ sig) = ((pr d : Thread nD τ), s')) :
    d = pr c := by
  rw [← pr_pr d]
  exact congrArg pr (Fin.ext (congrArg (fun g : GSem nD τ sig => g.1.1.val) h)).symm

theorem recvS_inj {j k : Fin 8} (h : recvS j = recvS k) : j = k := by
  have := congrArg (chunkOf 19) h
  rwa [chunkOf_recv, chunkOf_recv] at this

theorem owed_at_bar (d c : Dev nD) : owed d 0 (barCell c) () = 0 := by
  by_contra h
  obtain ⟨j, hj⟩ := owed_pos (Nat.pos_of_ne_zero h)
  cases congrArg Prod.snd hj

theorem owed_at_recv (d c : Dev nD) (j : Fin 8) : owed d 0 (recvCell c j) () = if d = pr c then N else 0 := by
  unfold owed
  rw [Finset.sum_apply, Finsupp.finset_sum_apply]
  by_cases h : d = pr c
  · subst h
    rw [pr_pr, if_pos rfl, Finset.sum_eq_single j]
    · rw [tallyAt_apply, if_pos ⟨rfl, rfl⟩]
    · intro k _ hk
      rw [tallyAt_apply, if_neg]
      rintro ⟨h1, -⟩
      exact hk (recvS_inj (SemLoc.dma.inj (congrArg Prod.snd h1))).symm
    · intro hj
      exact absurd (by revert j; decide) hj
  · rw [if_neg h]
    refine Finset.sum_eq_zero fun k _ => ?_
    rw [tallyAt_apply, if_neg]
    rintro ⟨h1, -⟩
    exact h (dev_of_cell h1)

theorem O₀_bar (d c : Dev nD) : O₀ d (barCell c) () = if d = pr c then 1 else 0 := by
  unfold O₀
  rw [Pi.add_apply, Finsupp.add_apply, owed_at_bar, Nat.zero_add, tallyAt_apply]
  by_cases h : d = pr c
  · subst h; rw [pr_pr, if_pos ⟨rfl, rfl⟩, if_pos rfl]
  · rw [if_neg (fun ⟨h1, _⟩ => h (dev_of_cell h1)), if_neg h]

theorem O₀_recv (d c : Dev nD) (j : Fin 8) : O₀ d (recvCell c j) () = if d = pr c then N else 0 := by
  unfold O₀
  rw [Pi.add_apply, Finsupp.add_apply, owed_at_recv, tallyAt_ne_cell (fun h => recv_ne_bar j (congrArg Prod.snd h)),
    Finsupp.zero_apply, Nat.add_zero]

theorem launch_bar (c : Dev nD) :
    tallyOn (barCell c) (launchCredit (Pipeline.owing O₀) 0 (barCell c)) = (tallyAt (barCell c) () 1 : CellTallies nD τ sig Unit) := by
  unfold tallyAt
  refine congrArg _ (Finsupp.ext fun u => ?_)
  cases u
  rw [Pipeline.launchCredit_owing, Finsupp.single_eq_same, Finset.sum_congr rfl fun d _ => O₀_bar d c,
    Finset.sum_ite_eq' Finset.univ (pr c) fun _ => 1, if_pos (Finset.mem_univ _)]
theorem launch_recv (c : Dev nD) (j : Fin 8) :
    tallyOn (recvCell c j) (launchCredit (Pipeline.owing O₀) 0 (recvCell c j)) = (tallyAt (recvCell c j) () N : CellTallies nD τ sig Unit) := by
  unfold tallyAt
  refine congrArg _ (Finsupp.ext fun u => ?_)
  cases u
  rw [Pipeline.launchCredit_owing, Finsupp.single_eq_same, Finset.sum_congr rfl fun d _ => O₀_recv d c j,
    Finset.sum_ite_eq' Finset.univ (pr c) fun _ => N, if_pos (Finset.mem_univ _)]

/-- The credits a device has at launch. -/
def credits (c : Dev nD) : sProp 𝕄 :=
  iprop(cred (tallyAt (barCell c) () 1) ∗ bigSep Finset.univ (fun j => cred (tallyAt (recvCell c j) () N)))

def recvEmb : Fin 8 ↪ SemLoc sig := ⟨fun j => .dma (recvS j), fun _ _ h => recvS_inj (SemLoc.dma.inj h)⟩

theorem creds (c : Dev nD) : (Pipeline.launchCred O₀ c : sProp 𝕄) ⊢ credits c := by
  unfold Pipeline.launchCred credits
  rw [bigSep_univ_at _ (SemLoc.reg barS), launch_bar]
  refine sep_mono_right ?_
  refine (BI.bigSep_subset (t := Finset.univ.map recvEmb) fun sm h => ?_).trans ?_
  · obtain ⟨j, -, rfl⟩ := Finset.mem_map.mp h
    exact Finset.mem_erase.mpr ⟨recv_ne_bar j, Finset.mem_univ _⟩
  · rw [bigSep_map]
    exact Entails.of_eq (bigSep_congr fun j _ => congrArg cred (launch_recv c j))

/-! ## The launch -/

theorem bar_counters : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem bar_places : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))
theorem open_rights : bigSep sideCells (fun g => (openTok ER g : sProp 𝕄))
    ⊢ bigSep Finset.univ (fun c : Dev nD => iprop(bigSep Finset.univ (fun j => openTok ER (sendCell c j)) ∗ bigSep Finset.univ (fun j => openTok ER (recvCell c j)))) :=
  Entails.of_eq (by
    rw [bigSep_map, bigSep_univ_prod]
    exact bigSep_congr fun c _ => sides fun sm => (openTok ER ((c : Thread nD τ), sm) : sProp 𝕄))

/-- The launch, on all devices at once: from the barrier counters and the launch element, every device's ghost state. -/
theorem fund :
    iprop(bigSep Finset.univ (fun c : Dev nD => (semVal (barCell c) 0 : sProp 𝕄)) ∗ bigSep Finset.univ (G (F := F)))
      ⊢ (|={Set.univ}=> bigSep Finset.univ fun c => iprop(∃ K, ghost I K c) : sProp 𝕄) := by
  iintro ⟨Hv, HG⟩
  ihave Hu := (show bigSep Finset.univ (G (F := F)) ⊢ BI.own (ER (launchOf barCells sideCells talkToks)) from
    Entails.of_eq (bigSep_onDev (F := F) 0 (BI.own (ER (launchOf barCells sideCells talkToks))))) $$ HG
  imod (Rounds.fund_launch ER (sched I) disjoint_cells (fun g _ h => h) talkToks) $$ [Hv Hu] with ⟨%κ, -, #Hinv, #Hr, Hat, Hopen, Htok⟩
  · isplitl [Hv]
    · iapply (bar_counters (F := F)) $$ Hv
    · iexact Hu
  imodintro
  iapply (bigSep_with_persistent (R := records I κ) (Φ := fun c => linear c) fun c _ => ghost_intro I κ c)
  isplitr
  · unfold records
    isplitr; · iexact Hinv
    iexact Hr
  unfold linear
  iapply bigSep_pair
  isplitl [Hat]; · iapply (bar_places (F := F)) $$ Hat
  iapply bigSep_pair
  isplitl [Hopen]; · iapply (open_rights (F := F)) $$ Hopen
  iapply (toks_around (F := F))
  iapply (Entails.of_eq (toks_eq (F := F))) $$ Htok

end Cert.KernelIdeal.Steps

end
-- ==== Proof.KernelIdeal.Launch.lean ====
/- The run of the whole program: the host operations' values enter the kernel region, the region's record, and the launch.
   Every execution ends with the arguments unchanged, the result at what the region writes, and every semaphore at zero. -/
module

public import proofs.«01_k».proof.Proof.KernelIdeal.Ghost
public import Idealize.ShloMosaic.Harness.Basic

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

/-! ## Opening the cells at the region's entry -/

section Opening

variable (I : Ins F)

/-- The region's own semaphores: the gather semaphores, and every chunk's send and receive semaphore. -/
def ownS : Fin 8 ⊕ (Fin 2 × Fin 8) → SemLoc sig
  | .inl j => .dma (gathS j)
  | .inr k => .dma (sideS k.1 k.2)

theorem own_eq (c : Dev nD) : (Pipeline.ownSems0 ownS c : sProp 𝕄) = zeros c := by
  unfold Pipeline.ownSems0 zeros
  rw [bigSep_univ_sum, ← sides fun sm => (semVal ((c : Thread nD τ), sm) 0 : sProp 𝕄)]
  rfl

/-- What a device brings to the region. -/
def Tk (c : Dev nD) : sProp 𝕄 := iprop((∃ K, ghost I K c) ∗ credits c)

theorem open_send (K : GSem nD τ sig → ℕ) (c : Dev nD) (j : Fin 8) :
    iprop(invs I K c ∗ (openTok ER (sendCell c j) ∗ semVal (sendCell c j) 0))
      ⊢ (|={Set.univ}=> iprop(atPos ER (sendCell c j) 0 ∅ 0 ∗ reached ER (sendCell c j) 0) : sProp 𝕄) := by
  iintro ⟨#HI, Ho, Hv⟩
  ihave HI' := (invs_chunk I K c j) $$ HI
  unfold chunkInvs
  icases HI' with ⟨#HIs, #HIr, #HIp⟩
  iapply (Rounds.cell_open ER (sched I) (g := sendCell c j) (Set.mem_univ (K (sendCell c j))))
  isplitr; · iexact HIs
  isplitl [Ho] <;> iassumption
theorem open_recv (K : GSem nD τ sig → ℕ) (c : Dev nD) (j : Fin 8) :
    iprop(invs I K c ∗ (openTok ER (recvCell c j) ∗ semVal (recvCell c j) 0))
      ⊢ (|={Set.univ}=> iprop(atPos ER (recvCell c j) 0 ∅ 0 ∗ reached ER (recvCell c j) 0) : sProp 𝕄) := by
  iintro ⟨#HI, Ho, Hv⟩
  ihave HI' := (invs_chunk I K c j) $$ HI
  unfold chunkInvs
  icases HI' with ⟨#HIs, #HIr, #HIp⟩
  iapply (Rounds.cell_open ER (sched I) (g := recvCell c j) (Set.mem_univ (K (recvCell c j))))
  isplitr; · iexact HIr
  isplitl [Ho] <;> iassumption

/-- A step made for every chunk from what each has, under a persistent fact, is made for all. -/
theorem all_chunks {R : sProp 𝕄} [BI.Persistent R] (A B C : Fin 8 → sProp 𝕄)
    (h : ∀ j, iprop(R ∗ (A j ∗ B j)) ⊢ (|={Set.univ}=> C j : sProp 𝕄)) :
    iprop(R ∗ (bigSep Finset.univ A ∗ bigSep Finset.univ B)) ⊢ (|={Set.univ}=> bigSep Finset.univ C : sProp 𝕄) := by
  iintro ⟨#HR, HA, HB⟩
  iapply (show bigSep Finset.univ (fun j => (iprop(|={Set.univ}=> C j) : sProp 𝕄)) ⊢ (|={Set.univ}=> bigSep Finset.univ C : sProp 𝕄)
    from bigSep_fupd _ _)
  iapply (bigSep_with_persistent (R := R) (Φ := fun j => iprop(A j ∗ B j)) fun j _ => h j)
  isplitr; · iexact HR
  iapply bigSep_pair
  isplitl [HA] <;> iassumption

theorem region_open (c : Dev nD) :
    iprop(Tk I c ∗ Pipeline.ownSems0 ownS c ∗ levAts L lv) ⊢ (|={Set.univ}=> Xk I c : sProp 𝕄) := by
  rw [own_eq]
  unfold Tk Xk credits zeros
  iintro ⟨⟨⟨%K, Hg⟩, HcB, HcV⟩, ⟨Hg0, Hs0, Hr0⟩, #Hlev⟩
  unfold ghost
  icases Hg with ⟨#HI, HaB, #HrP, ⟨HoS, HoR⟩, HtB, HtS, HtR⟩
  imod (all_chunks (R := invs I K c) (fun j => openTok ER (sendCell c j)) (fun j => semVal (sendCell c j) 0) _ (open_send I K c)) $$ [HoS Hs0] with HS
  · isplitr; · iexact HI
    isplitl [HoS] <;> iassumption
  imod (all_chunks (R := invs I K c) (fun j => openTok ER (recvCell c j)) (fun j => semVal (recvCell c j) 0) _ (open_recv I K c)) $$ [HoR Hr0] with HR
  · isplitr; · iexact HI
    isplitl [HoR] <;> iassumption
  ihave HS := bigSep_unpair $$ HS
  icases HS with ⟨HaS, HrS⟩
  ihave HR := bigSep_unpair $$ HR
  icases HR with ⟨HaR, HrR⟩
  imodintro
  isplitr [Hg0]
  · iexists K
    unfold opened
    isplitr; · iexact HI
    isplitl [HaB HtB HcB]
    · isplitl [HaB]; · iexact HaB
      isplitr; · iexact HrP
      isplitl [HtB] <;> iassumption
    isplitl [HrR]; · iexact HrR
    isplitl [HrS HtS HtR]
    · iapply bigSep_pair
      isplitl [HrS]; · iexact HrS
      iapply bigSep_pair
      isplitl [HtS] <;> iassumption
    isplitl [HcV HaR]
    · iapply bigSep_pair
      isplitl [HcV] <;> iassumption
    iexact HaS
  isplitr; · iexact Hlev
  iexact Hg0

end Opening

/-! ## The region's record -/

section Record

variable (V : Dev nD → Valuation τ sig (Elt F))

/-- What each device's kernel reads when the buffers hold `V`: the row numbers, the mask and its table block. -/
def ins : Ins F := ⟨fun c => V c main_v8, fun c => V c main_v16, fun c => V c main_arg1⟩
/-- The result's buffer before the region. -/
def before (c : Dev nD) : S1024x1024.Idx → Elt F .f32 := V c main_v17
/-- What the buffers hold after the region: the result in its buffer, the rest as before. -/
def final (c : Dev nD) : Valuation τ sig (Elt F) := Function.update (V c) main_v17 (result (ins V) c)

theorem final_v17 (c : Dev nD) : final V c main_v17 = result (ins V) c := Function.update_self _ _ _
theorem final_else (c : Dev nD) (b : DevRef τ sig) (hb : b ≠ Proc.devRef .tc main_v17) : final V c b = V c b :=
  Function.update_of_ne hb _ _

/-- The buffers the body addresses itself: the table block. -/
def own : Finset (DevRef τ sig) := {Proc.devRef .tc main_arg1}
/-- The buffers no window covers. -/
def rest : Finset (DevRef τ sig) := Pipeline.ucRefs τ sig \ Pipeline.arrRefs (τ := τ) spec0

theorem own_sub : own ⊆ rest := by decide

theorem held_own (c : Dev nD) (W : Valuation τ sig (Elt F)) (h : W main_arg1 = (ins V).tab c) :
    (StableHlo.held (c : Thread nD τ) own W : sProp 𝕄) = tabWhole (ins V) c := by
  unfold StableHlo.held own tabWhole
  rw [bigSep_singleton, h]

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem region_in (c : Dev nD) :
    iprop(Pipeline.scopedRest (Pipeline.pin (pcfgs (F := F)) adm 0).spec c ∗ (∃ r, prngReg c r)
        ∗ StableHlo.held (c.tc : Thread nD τ) own (V c) ∗ Xk (ins V) c)
      ⊢ (pdats (ins V) (before V) 0 c).Φ 0 := by
  rw [show (pdats (ins V) (before V) 0 c).Φ 0 = Φ₀ (ins V) c from rfl]
  rw [show (Pipeline.scopedRest (Pipeline.pin (pcfgs (F := F)) adm 0).spec c : sProp 𝕄) = _ from scopedRest0_eq c, held_own V c _ rfl]
  unfold Φ₀ scratch
  iintro ⟨Hs, Hp, Ht, HX⟩
  isplitl [HX]; · iexact HX
  isplitl [Ht]; · iexact Ht
  isplitl [Hs] <;> iassumption

theorem region_out (c : Dev nD) : (pdats (ins V) (before V) 0 c).Φ (Fin.last (Pipeline.pin (pcfgs (F := F)) adm 0).N)
    ⊢ iprop(Pipeline.scopedRest (Pipeline.pin (pcfgs (F := F)) adm 0).spec c ∗ (∃ r, prngReg c r)
        ∗ StableHlo.held (c.tc : Thread nD τ) own (final V c) ∗ Pipeline.ownSems0 ownS c ∗ Yk c) := by
  rw [show (pdats (ins V) (before V) 0 c).Φ (Fin.last (Pipeline.pin (pcfgs (F := F)) adm 0).N) = Φ₁ (ins V) c from rfl]
  rw [show (Pipeline.scopedRest (Pipeline.pin (pcfgs (F := F)) adm 0).spec c : sProp 𝕄) = _ from scopedRest0_eq c,
    held_own V c _ (final_else V c _ (by decide)), own_eq]
  unfold Φ₁ scratch
  iintro ⟨HY, Hz, Ht, Hs, Hp⟩
  isplitl [Hs]; · iexact Hs
  isplitl [Hp]; · iexact Hp
  isplitl [Ht]; · iexact Ht
  isplitl [Hz] <;> iassumption

/-- The windows' arrays are at a valuation's contents when the three buffers are. -/
theorem arr_at (I : Ins F) (old : Dev nD → S1024x1024.Idx → Elt F .f32) (c : Dev nD) (n : ℕ) (W : Valuation τ sig (Elt F))
    (h0 : I.ids c = W main_v8) (h1 : I.msk c = W main_v16) (h2 : (dat I old c).arrAt 2 n = W main_v17) :
    ∀ w : Fin 3, (pdats I old 0 c).arrAt w n = W (Proc.devRef .tc (Pipeline.arrRef (Pipeline.pin (pcfgs (F := F)) adm 0).spec w))
  | 0 => (arr_0 I old c n).trans h0
  | 1 => (arr_1 I old c n).trans h1
  | 2 => h2
theorem arr_start (I : Ins F) (old : Dev nD → S1024x1024.Idx → Elt F .f32) (c : Dev nD) : (dat I old c).arrAt 2 0 = old c := rfl
theorem arr_before (c : Dev nD) (w : Fin 3) : (pdats (ins V) (before V) 0 c).arrAt w 0
    = V c (Proc.devRef .tc (Pipeline.arrRef (Pipeline.pin (pcfgs (F := F)) adm 0).spec w)) :=
  arr_at (ins V) (before V) c 0 (V c) rfl rfl (arr_start (ins V) (before V) c) w
theorem arr_after (c : Dev nD) (w : Fin 3) : (pdats (ins V) (before V) 0 c).arrAt w (Pipeline.pin (pcfgs (F := F)) adm 0).N
    = final V c (Proc.devRef .tc (Pipeline.arrRef (Pipeline.pin (pcfgs (F := F)) adm 0).spec w)) :=
  arr_at (ins V) (before V) c _ (final V c) (final_else V c (Proc.devRef .tc main_v8) (by decide)).symm
    (final_else V c (Proc.devRef .tc main_v16) (by decide)).symm
    ((arr_2 (ins V) (before V) c).trans (final_v17 V c).symm) w

/-- What a device owes its partner stands above the staging cells. -/
theorem owed_above (c : Dev nD) (t : Fin (grid0.N + 1)) (g : GSem nD τ sig) (u : Unit)
    (h : 0 < (dat (ins V) (before V) c).owed t g u) : u ∈ L g ∧ 0 < lv g u := by
  have h' : 0 < (if t.val = 0 then O₀ c else 0 : CellTallies nD τ sig Unit) g u := h
  by_cases ht : t.val = 0
  · rw [if_pos ht] at h'
    unfold O₀ at h'
    rw [Pi.add_apply, Finsupp.add_apply] at h'
    by_cases h0 : 0 < owed c 0 g u
    · obtain ⟨j, rfl⟩ := owed_pos h0
      exact ⟨by rw [L_tc]; exact Finset.mem_singleton_self _, by show 0 < lvl (.dma (recvS j)); rw [lvl_recv]; decide⟩
    · rw [Nat.eq_zero_of_not_pos h0, Nat.zero_add, tallyAt_apply] at h'
      by_cases hg : g = barCell (pr c) ∧ u = ()
      · obtain ⟨rfl, -⟩ := hg
        exact ⟨by rw [L_tc]; exact Finset.mem_singleton_self _, Nat.one_pos⟩
      · rw [if_neg hg] at h'
        exact absurd h' (lt_irrefl 0)
  · rw [if_neg ht] at h'
    exact absurd h' (lt_irrefl 0)

theorem staging_level : ∀ (w : Fin 3) (s : Fin (cfg0.win w).nbuf), lvl (.dma ((cfg0.win w).sem s)) = 0 := by decide
theorem share_full (I : Ins F) (old : Dev nD → S1024x1024.Idx → Elt F .f32) (c : Dev nD) : ∀ w : Fin 3, (dat I old c).share w = fullShare
  | 0 => rfl
  | 1 => rfl
  | 2 => rfl

variable (hids : ∀ c i, k0_chk1 ((ins V).ids c i))

set_option backward.isDefEq.respectTransparency.types false in
/-- The region's record. -/
def reg0 : Pipeline.RegionSeg (pcfgs (F := F)) adm (pdats (ins V) (before V)) () defs₀ 𝒱₀ L lv 0 :=
  Pipeline.RegionSeg.ofTalk (pcfgs (F := F)) adm (pdats (ins V) (before V)) () defs₀ 𝒱₀ L lv 0 ownS (by decide : Pipeline.OwnSemFacts spec0 ownS)
    own rest own_sub kitP rfl (fun c => (obligation (ins V) (before V) hids c).loose)
    (fun _ => 0) O₀ (fun c => (owed_zero (ins V) (before V) c).trans (zero_add _).symm) (fun c => owed_last (ins V) (before V) c)
    (fun _ => rfl) (fun c w => share_full (ins V) (before V) c w)
    (V) (final V) (fun c b hb => final_else V c b fun h =>
      (Finset.mem_sdiff.mp (Finset.mem_sdiff.mp hb).1).2 (by rw [h]; decide))
    (Tk (ins V)) Yk (Xk (ins V)) Yk (region_open (ins V)) (region_in V) (region_out V)
    (fun c => by iintro H; imodintro; iexact H)
    (fun _ => 0)
    ⟨fun c w s => by rw [L_tc]; exact Finset.mem_singleton_self _,
      fun _ w s => (staging_level w s).le, fun c t g u h => owed_above V c t g u h⟩
    (fun _ => iprop(emp))
    (arr_before V) (arr_after V)

/-! ## Into the region and out of it -/

/-- What stands beside the buffers up to the region, and after it. -/
def E : Fin 2 → Dev nD → sProp 𝕄
  | 0 => fun c => iprop(Tk (ins V) c ∗ (∃ r, prngReg c r) ∗ ∃ W, owes (c : Thread nD τ) (O₀ c) W)
  | 1 => fun c => iprop(Yk c ∗ (∃ r, prngReg c r) ∗ ∃ W, owes (c : Thread nD τ) (0 : CellTallies nD τ sig Unit) W)

theorem arr_sub : Pipeline.arrRefs (τ := τ) spec0 ⊆ Pipeline.ucRefs τ sig := Pipeline.arrRefs_sub_ucRefs spec0 (by decide)

theorem enter (c : Dev nD) :
    iprop(StableHlo.held (c : Thread nD τ) (Pipeline.ucRefs τ sig) (V c) ∗ E V 0 c) ⊢ (reg0 V hids).pre c := by
  show _ ⊢ iprop(StableHlo.held (c.tc : Thread nD τ) (Pipeline.arrRefs (τ := τ) spec0) (V c) ∗ (∃ r, prngReg c r)
    ∗ (StableHlo.held (c.tc : Thread nD τ) rest (V c) ∗ emp) ∗ Tk (ins V) c ∗ ∃ Wd, owes (c : Thread nD τ) (0 + O₀ c) Wd)
  rw [zero_add, StableHlo.held_sub_split (c.tc : Thread nD τ) arr_sub (V c)]
  unfold E rest
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption
theorem leave (c : Dev nD) :
    (reg0 V hids).post c ⊢ iprop(StableHlo.held (c : Thread nD τ) (Pipeline.ucRefs τ sig) (final V c) ∗ E V 1 c) := by
  show iprop(StableHlo.held (c.tc : Thread nD τ) (Pipeline.arrRefs (τ := τ) spec0) (final V c) ∗ (∃ r, prngReg c r)
    ∗ (StableHlo.held (c.tc : Thread nD τ) rest (final V c) ∗ emp) ∗ Yk c ∗ ∃ Wd, owes (c : Thread nD τ) (0 : CellTallies nD τ sig Unit) Wd) ⊢ _
  rw [StableHlo.held_sub_split (c.tc : Thread nD τ) arr_sub (final V c)]
  unfold E rest
  iintro ⟨Ha, Hp, ⟨Hr, -⟩, HY, HO⟩
  isplitl [Ha Hr]
  · isplitl [Ha] <;> iassumption
  isplitl [HY]; · iexact HY
  isplitl [Hp] <;> iassumption

end Record

section Run

/-! ## The launch and the run -/

variable (m : (ℓ : Loc nD τ sig) → Buf (Elt F) ℓ) (hids : ∀ c i, k0_chk1 ((ins (V3 m)).ids c i)) (ρ : Dev nD → PrngReg)

/-- What a device starts from. -/
abbrev T₀ (c : Dev nD) : sProp 𝕄 := iprop(StableHlo.held (c : Thread nD τ) (Pipeline.ucRefs τ sig) (V0 m c) ∗ E (V3 m) 0 c)
/-- What it ends with. -/
abbrev Tₙ (c : Dev nD) : sProp 𝕄 :=
  iprop(StableHlo.held (c : Thread nD τ) (Pipeline.ucRefs τ sig) (final (V3 m) c) ∗ semVal (barCell c) 0)

theorem final_arg0 (c : Dev nD) : final (V3 m) c main_arg0 = m ((c.tc : Thread nD τ).loc main_arg0) :=
  (final_else (V3 m) c _ (by decide)).trans
    ((V3_of m c _ (by decide)).trans ((V2_of m c _ (by decide)).trans ((V1_of m c _ (by decide)).trans rfl)))
theorem final_arg1 (c : Dev nD) : final (V3 m) c main_arg1 = m ((c.tc : Thread nD τ).loc main_arg1) :=
  (final_else (V3 m) c _ (by decide)).trans
    ((V3_of m c _ (by decide)).trans ((V2_of m c _ (by decide)).trans ((V1_of m c _ (by decide)).trans rfl)))

theorem counters_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_eq : ∀ sm : SemLoc sig, sm.isScoped .tc = false → sm = .reg barS := by decide

/-- What of a device's launch holdings is not the protocol's. -/
def bundle (c : Dev nD) : sProp 𝕄 :=
  iprop(StableHlo.held (c : Thread nD τ) (Pipeline.ucRefs τ sig) (V0 m c) ∗ credits c ∗ (∃ r, prngReg c r)
    ∗ owes (c : Thread nD τ) (O₀ c) ∅)

theorem launch_core (c : Dev nD) :
    iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ (semVal (barCell c) 0 ∗ G c)) : sProp 𝕄) := by
  rw [counters_eq]
  rw [show (unscopedBufs c (fun b => m ((c.tc : Thread nD τ).loc b)) : sProp 𝕄)
    = StableHlo.held (c : Thread nD τ) (Pipeline.ucRefs τ sig) (V0 m c) from Pipeline.unscopedBufs_held c (V0 m c)]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [Hp]; · iexists (ρ c); iexact Hp
    iexact HO
  isplitl [Hus] <;> iassumption

theorem start_intro (c : Dev nD) : iprop((∃ K, ghost (ins (V3 m)) K c) ∗ bundle m c) ⊢ T₀ m c := by
  unfold bundle T₀ E Tk
  iintro ⟨HK, Hh, Hc, Hp, HO⟩
  isplitl [Hh]; · iexact Hh
  isplitl [HK Hc]
  · isplitl [HK] <;> iassumption
  isplitl [Hp]; · iexact Hp
  iexists ∅
  iexact HO

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄)
    from bigSep_mono fun c _ => launch_core m ρ c) $$ H
  ihave H := bigSep_unpair $$ H
  icases H with ⟨HB, H⟩
  ihave H := bigSep_unpair $$ H
  imod (fund (ins (V3 m))) $$ H with HK
  imodintro
  iapply (show (bigSep Finset.univ fun c : Dev nD => iprop((∃ K, ghost (ins (V3 m)) K c) ∗ bundle m c)) ⊢ (bigSep Finset.univ (T₀ m) : sProp 𝕄)
    from bigSep_mono fun c _ => start_intro m c)
  iapply bigSep_pair
  isplitl [HK] <;> iassumption

include hids in
set_option backward.isDefEq.respectTransparency.types false in
/-- From any memory with zero counters, every execution on the mesh ends, and every final state has both arguments
    unchanged, the result at what the region writes, and every semaphore at zero. -/
theorem run_main : θ_run defs (onTc (τ := τ) (main (F := F))) ⟨m, fun _ => 0, ρ⟩ (fun r =>
    (∀ c : Dev nD, r.2.mem ((c.tc : Thread nD τ).loc main_v17) = result (ins (V3 m)) c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  Pipeline.θ_run_regions_kit_dev_sems (pcfgs (F := F)) adm (pdats (ins (V3 m)) (before (V3 m))) () cellOf_inj EP defs₀ 𝒱₀ L lv m ρ main
    (segs m 𝒱₀ L lv (E (V3 m)) () (pdats (ins (V3 m)) (before (V3 m))) (reg0 (V3 m) hids))
    (fun c Q => by
      rewrite [main_chain c, Pipeline.Seg.run_eq_chain,
        show (segs m 𝒱₀ L lv (E (V3 m)) () (pdats (ins (V3 m)) (before (V3 m))) (reg0 (V3 m) hids) c).map Pipeline.Seg.prog = [
          StableHlo.seq (hostOps0 c),
          StableHlo.seq hostOps0_1,
          StableHlo.seq hostOps0_2,
          Prog.lift (.customCall (Pipeline.entry 0) ()) ] from rfl]
      exact .rfl)
    (fun c => by simp only [segs, Pipeline.Seg.pipes_host, Pipeline.Seg.pipes_region, Pipeline.Seg.pipes_nil]; decide) O₀ L_of_ne G u₀
    (hu₀ := by
      iintro Hu
      ihave H := (u₀_split (F := F)) $$ Hu
      icases H with ⟨HP, HX⟩
      imodintro
      isplitl [HP]; · iexact HP
      iapply (Entails.of_eq (bigSep_onDev (F := F) 0 (BI.own (ER (launchOf barCells sideCells talkToks)))).symm)
      iexact HX)
    (T₀ := T₀ m) (Tₙ := Tₙ m)
    (hch := fun c => ⟨.rfl, .rfl, .rfl, enter (V3 m) hids c, (leave (V3 m) hids c).trans (by
      unfold E Yk
      iintro ⟨Hh, Hb, -, HO⟩
      isplitr [HO]
      · isplitl [Hh] <;> iassumption
      iexact HO)⟩)
    (hinit := init m ρ)
    (QY := fun c s => (s.mem ((c.tc : Thread nD τ).loc main_v17) = result (ins (V3 m)) c
        ∧ s.mem ((c.tc : Thread nD τ).loc main_arg0) = m ((c.tc : Thread nD τ).loc main_arg0)
        ∧ s.mem ((c.tc : Thread nD τ).loc main_arg1) = m ((c.tc : Thread nD τ).loc main_arg1)) ∧ s.sem (barCell c) = 0)
    (hfin := fun c s' => by
      unfold Tₙ StableHlo.held
      iintro ⟨⟨Hh, Hb⟩, HSI⟩
      icombine HSI Hb gives %hb
      ihave Hr := (pointsTo_read_all (Pipeline.ucRefs τ sig) (fun b => ((c : Thread nD τ).1, b)) (final (V3 m) c) s') $$ [Hh HSI]
      · isplitl [Hh] <;> iassumption
      icases Hr with ⟨%h, HSI⟩
      imodintro
      isplitr
      · ipureintro
        exact ⟨⟨(h (Proc.devRef .tc main_v17) (Finset.mem_filter.mpr ⟨StableHlo.devRef_mem_tcRefs main_v17, by decide⟩)).trans (final_v17 (V3 m) c),
          (h (Proc.devRef .tc main_arg0) (Finset.mem_filter.mpr ⟨StableHlo.devRef_mem_tcRefs main_arg0, by decide⟩)).trans (final_arg0 m c),
          (h (Proc.devRef .tc main_arg1) (Finset.mem_filter.mpr ⟨StableHlo.devRef_mem_tcRefs main_arg1, by decide⟩)).trans (final_arg1 m c)⟩,
          by simpa using hb⟩
      · iexact HSI)
    (hQ := fun s h hs => ⟨fun c => (h c).1, sem_eq_zero hs fun c sm hsm => by
        obtain rfl := unscoped_eq sm hsm
        exact (h c).2⟩)

end Run

end Cert.KernelIdeal.Steps

end
-- ==== Proof.KernelIdeal.Host.lean ====
/- What the host operations leave in the region's two computed operands: the row numbers and the mask. -/
module

public import proofs.«01_k».proof.Proof.KernelIdeal.Launch
public import Idealize.ShloMosaic.Lib.StableHlo.RunHlo
public import Idealize.ShloMosaic.Lib.StableHlo.RunRead
public import Idealize.ShloMosaic.Lib.Claim
public import Idealize.ShloMosaic.Lib.WordCmp

@[expose] public section

noncomputable section

namespace Cert.KernelIdeal.Steps

open Cert.KernelIdeal Cert.KernelIdeal.Gen
open Idealize.ShloMosaic Idealize.ShloMosaic.TcCoe
open Idealize.SL.Sem

variable {F : FTy → Type} [FloatOps F]

/-- The first table row that device `c` holds, as the host operations compute it from the device's number. -/
def base (c : Dev nD) : BitVec 32 :=
  IntOp.muli (IntOp.remui .host (IntOp.divui .host c.word 16#32) 2#32) 8192#32

/-- It is 8192 times the device's coordinate on the first mesh axis. -/
theorem base_eq : ∀ c : Dev nD, base c = BitVec.ofNat 32 (8192 * (c.val / 16)) := by
  decide

/-- The row number that the kernel fetches for the index `a`: `a` from the device's first row, brought into the table. -/
def rowWord (c : Dev nD) (a : BitVec 32) : BitVec 32 := IntOp.minsi 8191#32 (IntOp.maxsi 0#32 (IntOp.subi a (base c)))

/-- The mask bit of the index `a`: whether the device holds its row. -/
def heldBit (c : Dev nD) (a : BitVec 32) : BitVec 1 :=
  IntOp.andi (IntOp.cmpi .sge a (base c)) (IntOp.cmpi .slt a (IntOp.addi (base c) 8192#32))

section Operands

variable (m : (ℓ : Loc nD τ sig) → Buf (Elt F) ℓ)

/-- The indices that device `c` is given. -/
def given (c : Dev nD) : S1024.Idx → BitVec 32 := m ((c.tc : Thread nD τ).loc main_arg0)
/-- The half of the table that device `c` is given. -/
def half (c : Dev nD) : S8192x1024.Idx → Elt F .f32 := m ((c.tc : Thread nD τ).loc main_arg1)

theorem given_eq (c : Dev nD) : V0 m c main_arg0 = given m c := rfl

theorem v8_eq (c : Dev nD) : V3 m c main_v8 = fun i : S1024.Idx => rowWord c (V0 m c main_arg0 i) := by
  unfold_abbrev_sides
  after_results
  rfl

theorem broadcast_col {α : Type} (x : S1024.Idx → α) (i : S1024x1.Idx) :
    broadcastInDim S1024x1 ![0] bcast_S1024_S1024x1_0 x i = x (idIx (i 0)) := by
  unfold broadcastInDim
  congr 1
  funext a
  fin_cases a
  apply Fin.ext
  rfl

theorem v16_eq (c : Dev nD) : V3 m c main_v16 = fun i : S1024x1.Idx => FloatOps.uitofp .f32 (heldBit c (V0 m c main_arg0 (idIx (i 0)))) := by
  unfold_abbrev_sides
  after_results
  funext i
  rw [broadcast_col]
  rfl

theorem ids_of (V : Dev nD → Valuation τ sig (Elt F)) (f : Dev nD → S1024.Idx → BitVec 32) (h : ∀ c, V c main_v8 = f c) :
    (ins V).ids = f := funext h
theorem msk_of (V : Dev nD → Valuation τ sig (Elt F)) (f : Dev nD → S1024x1.Idx → Elt F .f32) (h : ∀ c, V c main_v16 = f c) :
    (ins V).msk = f := funext h
theorem tab_of (V : Dev nD → Valuation τ sig (Elt F)) (f : Dev nD → S8192x1024.Idx → Elt F .f32) (h : ∀ c, V c main_arg1 = f c) :
    (ins V).tab = f := funext h

/-- The region fetches the rows that the indices name, counted from the device's first row and brought into the table. -/
theorem ids_eq : (ins (V3 m)).ids = fun c i => rowWord c (given m c i) := ids_of (V3 m) _ (v8_eq m)
/-- The region's mask is 1 where the device holds the row that the index names, and 0 elsewhere. -/
theorem msk_eq : (ins (V3 m)).msk = fun c i => FloatOps.uitofp .f32 (heldBit c (given m c (idIx (i 0)))) := msk_of (V3 m) _ (v16_eq m)
/-- The region's table is the device's half. -/
theorem tab_eq : (ins (V3 m)).tab = half m := tab_of (V3 m) _ fun c =>
  (V3_of m c main_arg1 (by decide)).trans ((V2_of m c main_arg1 (by decide)).trans (V1_of m c main_arg1 (by decide)))

/-- A fetched row number is a row of the device's table, whatever the index was. -/
theorem rowWord_le (c : Dev nD) (a : BitVec 32) : (rowWord c a).toNat ≤ 8191 := by
  unfold rowWord IntOp.minsi IntOp.maxsi
  generalize IntOp.subi a (base c) = x
  have h0 : (0#32 : BitVec 32).toInt = 0 := rfl
  have h1 : (8191#32 : BitVec 32).toInt = 8191 := rfl
  have h2 : (8191#32 : BitVec 32).toNat = 8191 := rfl
  have h3 : (0#32 : BitVec 32).toNat = 0 := rfl
  have hx := BitVec.toInt_eq_toNat_cond x
  have hl := x.isLt
  simp only [BitVec.slt, decide_eq_true_eq]
  split_ifs at * <;> omega

theorem rows_fit (c : Dev nD) (i : S1024.Idx) : k0_chk1 ((ins (V3 m)).ids c i) := by
  rw [ids_eq]
  have h := rowWord_le c (given m c i)
  intro a
  fin_cases a
  · show (rowWord c (given m c i)).toNat + 1 ≤ 8192; omega
  · show 0 + 1024 ≤ 1024; omega

/-- From any memory with zero counters, every execution ends, and every final state has both arguments unchanged, the
    result at what the region writes, and every semaphore at zero. -/
theorem run (ρ : Dev nD → PrngReg) : θ_run defs (onTc (τ := τ) (main (F := F))) ⟨m, fun _ => 0, ρ⟩ (fun r =>
    (∀ c : Dev nD, r.2.mem ((c.tc : Thread nD τ).loc main_v17) = result (ins (V3 m)) c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  run_main m (rows_fit m) ρ

/-- From any memory with zero counters, every execution ends, and every final state has both arguments unchanged and every
    semaphore at zero. -/
theorem frame (ρ : Dev nD → PrngReg) : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  θ_run_mono (run m ρ) fun _ h => ⟨fun c => (h.1 c).2, h.2⟩

end Operands

end Cert.KernelIdeal.Steps

end
-- ==== Proof.Reference.lean ====
/- The run of the reference, a straight line of host operations on one device. -/
module

public import proofs.«01_k».proof.Defs
public import proofs.«01_k».proof.Proof.Gen.ReferenceIdeal
public import Idealize.ShloMosaic.Lib.StableHlo.RunHlo
public import Idealize.ShloMosaic.Lib.StableHlo.RunRead
public import Idealize.ShloMosaic.Lib.Claim
public import Idealize.ShloMosaic.Lib.Quiescent
public import Idealize.ShloMosaic.Lib.ValueIdxCore

@[expose] public section

noncomputable section

namespace Cert.ReferenceIdeal.Steps

open Cert.ReferenceIdeal Cert.ReferenceIdeal.Gen
open Idealize.ShloMosaic Idealize.ShloMosaic.TcCoe
open Idealize.SL.Sem
open Idealize.ShloMosaic.ValueIdx (ix1 ix2)

variable (m : (ℓ : Loc nD τ sig) → Buf (Elt Ideal) ℓ) (ρ : Dev nD → PrngReg)

/-- Every execution of the reference leaves its arguments as they were. -/
theorem kept : θ_run (defs (F := Ideal)) (onTc (τ := τ) (main (F := Ideal))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) := by
  hlo_run

/-- The same, with every semaphore at zero. -/
theorem frame : θ_run (defs (F := Ideal)) (onTc (τ := τ) (main (F := Ideal))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1))
    ∧ r.2.sem = fun _ => 0) :=
  θ_run_mono (kept m ρ) fun r h => ⟨h, sem_eq_zero_of_no_sems rfl r.2⟩

/-- The place in the table of a row and a column; a row past the end is the last. -/
def entry (n : Nat) (y : Fin 1024) : S16384x1024.Idx := ix2 (⟨min n 16383, by omega⟩ : Fin 16384) y
/-- The lookup: row `i` of the result is the table row that the `i`-th index names. -/
def lookup (E : S16384x1024.Idx → EReal) (a : S1024.Idx → BitVec 32) : S1024x1024.Idx → EReal :=
  fun i => E (entry (a (ix1 (i 0))).toNat (i 1))

/-- The gather of whole rows reads, at row `r`, the table row that the `r`-th start index names, read signed and brought
    into the table. -/
theorem gather_row (E : S16384x1024.Idx → EReal) (a : IVec S1024x1 32) (i : S1024x1024.Idx) :
    Host.gather gather_S16384x1024_S1024x1_S1024x1024_1_0_n_n_0_1_11024 E a i
      = E (entry (a (ix2 (i 0) (0 : Fin 1))).toInt.toNat (i 1)) := by
  have hstart : GatherDims.start gather_S16384x1024_S1024x1_S1024x1024_1_0_n_n_0_1_11024 i a (0 : Fin 2)
      = min (a (ix2 (i 0) (0 : Fin 1))).toInt.toNat 16383 := by
    have hm : (0 : Fin 2) ∈ (gather_S16384x1024_S1024x1_S1024x1024_1_0_n_n_0_1_11024).startIndexMap := List.mem_singleton.mpr rfl
    have hsi : GatherDims.siIdx gather_S16384x1024_S1024x1_S1024x1024_1_0_n_n_0_1_11024 i
        ⟨List.idxOf (0 : Fin 2) (gather_S16384x1024_S1024x1_S1024x1024_1_0_n_n_0_1_11024).startIndexMap, List.idxOf_lt_length_iff.2 hm⟩
        = ix2 (i 0) (0 : Fin 1) := by
      funext b
      apply Fin.ext
      fin_cases b
      · rfl
      · rfl
    refine (dif_pos hm).trans ?_
    rw [hsi]
    rfl
  have hcol : GatherDims.start gather_S16384x1024_S1024x1_S1024x1024_1_0_n_n_0_1_11024 i a (1 : Fin 2) = 0 :=
    dif_neg (show (1 : Fin 2) ∉ ([0] : List (Fin 2)) by decide)
  have hoff : GatherDims.offCoord gather_S16384x1024_S1024x1_S1024x1024_1_0_n_n_0_1_11024 i (0 : Fin 2) = 0 :=
    GatherDims.offCoord_eq_zero _ _ _ (fun h => ((GatherDims.mem_sKept _ _).mp h).1 (List.mem_singleton.mpr rfl))
  have hoff' : GatherDims.offCoord gather_S16384x1024_S1024x1_S1024x1024_1_0_n_n_0_1_11024 i (1 : Fin 2) = (i 1).val := rfl
  unfold Host.gather
  congr 1
  funext k
  apply Fin.ext
  show GatherDims.start _ i a k + GatherDims.batchCoord _ i k + GatherDims.offCoord _ i k = _
  rw [GatherDims.batchCoord_eq_zero _ _ _ (by show k ∉ ([] : List (Fin 2)); simp)]
  match k with
  | ⟨0, _⟩ => exact (congrArg₂ (fun x y => x + 0 + y) hstart hoff)
  | ⟨1, _⟩ => exact (congrArg₂ (fun x y => x + 0 + y) hcol hoff').trans (Nat.zero_add _)

/-- An index of the table, when it is read signed, is itself. -/
theorem kept_word (a : BitVec 32) (h : a.toNat < 16384) :
    (Scalar.select (IntOp.cmpi .slt a 0#32) (IntOp.addi a 16384#32) a).toInt.toNat = a.toNat := by
  have e := BitVec.toInt_eq_toNat_cond a
  have hs : IntOp.cmpi .slt a 0#32 = 0#1 := by
    show BitVec.ofBool (decide (a.toInt < (0#32 : BitVec 32).toInt)) = 0#1
    rw [decide_eq_false (by rw [show (0#32 : BitVec 32).toInt = 0 from rfl]; split at e <;> omega)]
    rfl
  rw [hs]
  show a.toInt.toNat = a.toNat
  split at e <;> omega

theorem gather_lookup (E : S16384x1024.Idx → EReal) (a : S1024.Idx → BitVec 32) (h : ∀ i, (a i).toNat < 16384) :
    Host.gather gather_S16384x1024_S1024x1_S1024x1024_1_0_n_n_0_1_11024 E
      (broadcastInDim S1024x1 ![0] bcast_S1024_S1024x1_0
        (select (cmpi .slt a (broadcastInDim S1024 ![] bcast_S_S1024 (constantI S_ 32 0#32)))
          (addi a (broadcastInDim S1024 ![] bcast_S_S1024 (constantI S_ 32 16384#32))) a)) = lookup E a := by
  funext i
  rw [gather_row]
  unfold lookup
  have e : ∀ x : S1024.Idx → BitVec 32, broadcastInDim S1024x1 ![0] bcast_S1024_S1024x1_0 x (ix2 (i 0) (0 : Fin 1)) = x (ix1 (i 0)) := by
    intro x
    unfold broadcastInDim
    congr 1
    funext b
    fin_cases b
    rfl
  rw [e]
  show E (entry (Scalar.select (IntOp.cmpi .slt (a (ix1 (i 0))) 0#32) (IntOp.addi (a (ix1 (i 0))) 16384#32) (a (ix1 (i 0)))).toInt.toNat (i 1)) = _
  rw [kept_word _ (h _)]

/-- When every index names a row, every execution of the reference ends with the lookup in its result and its arguments as
    they were. -/
theorem value (h : ∀ i : S1024.Idx, BitVec.toNat (w := 32) (m (((0 : Dev nD).tc : Thread nD τ).loc main_arg0) i) < 16384) :
    θ_run (defs (F := Ideal)) (onTc (τ := τ) (main (F := Ideal))) ⟨m, fun _ => 0, ρ⟩ (fun r =>
      r.2.mem (((0 : Dev nD).tc : Thread nD τ).loc main_v6)
        = lookup (m (((0 : Dev nD).tc : Thread nD τ).loc main_arg1)) (m (((0 : Dev nD).tc : Thread nD τ).loc main_arg0))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)) := by
  hlo_run
  exact gather_lookup _ _ h

end Cert.ReferenceIdeal.Steps

end
-- ==== Proof.Value.lean ====
/- The kernel's result over the extended reals: the lookup, on every device. -/
module

public import proofs.«01_k».proof.Proof.KernelIdeal.Host
public import proofs.«01_k».proof.Proof.Reference
public import proofs.«01_k».proof.Proof.Gen.Pre_in_table_KernelIdeal
public import Idealize.ShloMosaic.Lib.ReduceAll
public import Idealize.ShloMosaic.Lib.Affine
public import Idealize.ShloMosaic.Lib.Layout

@[expose] public section

noncomputable section

namespace Cert.KernelIdeal.Steps

open Cert.KernelIdeal Cert.KernelIdeal.Gen
open Idealize.ShloMosaic Idealize.ShloMosaic.TcCoe
open Idealize.SL.Sem
open Idealize.ShloMosaic.ValueIdx (ix1 ix2)
open Cert.ReferenceIdeal (S16384x1024)
open Cert.ReferenceIdeal.Steps (entry lookup)

/-- A word that is at least 0 and below 16384, both read signed, is below 16384 read unsigned. -/
theorem word_in (a : BitVec 32) (h : IntOp.andi (IntOp.cmpi .sge a 0#32) (IntOp.cmpi .slt a 16384#32) = 1#1) : a.toNat < 16384 := by
  obtain ⟨h0, h1⟩ := IntOp.andi_eq_one.1 h
  have h0 := IntOp.cmpi_sge.1 h0
  have h1 := IntOp.cmpi_slt.1 h1
  have e0 : (0#32 : BitVec 32).toInt = 0 := rfl
  have e1 : (16384#32 : BitVec 32).toInt = 16384 := rfl
  have e := BitVec.toInt_eq_toNat_cond a
  split at e <;> omega

/-- The precondition says that every index names a row of the table. -/
theorem in_table (a : S1024.Idx → BitVec 32) (E : S8192x1024.Idx → EReal)
    (h : Cert.Pre_in_table_KernelIdeal.fn (F := Ideal) a E = fun _ => 1#1) (i : S1024.Idx) : (a i).toNat < 16384 := by
  have : Subsingleton S_.Idx := ⟨fun _ _ => funext fun b => b.elim0⟩
  exact word_in _ (Host.reduce_andi_all (t := Cert.Pre_in_table_KernelIdeal.S_) _ _ _ _ (fun b => b.elim0) (congrFun h _) i)

section Words

variable (c : Dev nD) (a : BitVec 32) (h : a.toNat < 16384)

theorem coord_lt : c.val / 16 < 2 := by have := c.isLt; have : nD = 32 := rfl; omega

theorem base_toNat : (base c).toNat = 8192 * (c.val / 16) := by
  have hk := coord_lt c
  rw [base_eq, BitVec.toNat_ofNat]
  omega

include h

/-- On the device whose half holds the row, the row number is the row's place in that half. -/
theorem rowWord_held (hc : a.toNat / 8192 = c.val / 16) : (rowWord c a).toNat = a.toNat % 8192 := by
  have hk := coord_lt c
  have hb := base_toNat c
  have hx : (IntOp.subi a (base c)).toNat = a.toNat % 8192 := by
    show (a - base c).toNat = _
    rw [BitVec.toNat_sub]
    omega
  unfold rowWord IntOp.minsi IntOp.maxsi
  generalize IntOp.subi a (base c) = x at *
  have h0 : (0#32 : BitVec 32).toInt = 0 := rfl
  have h1 : (8191#32 : BitVec 32).toInt = 8191 := rfl
  have e := BitVec.toInt_eq_toNat_cond x
  rw [if_pos (show 2 * x.toNat < 2 ^ 32 by omega)] at e
  have e0 : x.slt 0#32 = false := decide_eq_false (by omega)
  rw [e0, if_neg Bool.false_ne_true]
  have e1 : (8191#32 : BitVec 32).slt x = false := decide_eq_false (by omega)
  rw [e1, if_neg Bool.false_ne_true, hx]

/-- The mask bit, in numbers. -/
theorem heldBit_eq : heldBit c a = IntOp.andi (BitVec.ofBool (decide (8192 * (c.val / 16) ≤ a.toNat)))
    (BitVec.ofBool (decide (a.toNat < 8192 * (c.val / 16) + 8192))) := by
  have hk := coord_lt c
  have hb := base_toNat c
  have hs : (IntOp.addi (base c) 8192#32).toNat = 8192 * (c.val / 16) + 8192 := by
    show (base c + 8192#32).toNat = _
    rw [BitVec.toNat_add, hb, show (8192#32 : BitVec 32).toNat = 8192 from rfl]
    omega
  unfold heldBit
  rw [WordCmp.cmpi_sge_of_lt (by omega) (by omega), WordCmp.cmpi_slt_of_lt (by omega) (by omega), hs, hb]

/-- The device that holds the row has mask bit 1. -/
theorem heldBit_held (hc : a.toNat / 8192 = c.val / 16) : heldBit c a = 1#1 := by
  rw [heldBit_eq c a h, decide_eq_true (by omega), decide_eq_true (by omega)]
  rfl

/-- The other has mask bit 0. -/
theorem heldBit_else (hc : a.toNat / 8192 ≠ c.val / 16) : heldBit c a = 0#1 := by
  have hk := coord_lt c
  rw [heldBit_eq c a h]
  by_cases hl : 8192 * (c.val / 16) ≤ a.toNat
  · rw [decide_eq_true hl, decide_eq_false (by omega)]
    rfl
  · rw [decide_eq_false hl, decide_eq_true (by omega)]
    rfl

end Words

/-- The half of the table that the mesh position of device `c` names. -/
def part (E : S16384x1024.Idx → EReal) (c : Dev nD) : S8192x1024.Idx → EReal :=
  Layout.blockN ⟨2, ![8192, 1024]⟩ ⟨2, ![16384, 1024]⟩ (Layout.meshBlock [2, 4, 4] ![[0], []] c) E

/-- A device's half, row `r`, is the table's row `r` past the device's first. -/
theorem half_entry (E : S16384x1024.Idx → EReal) (c : Dev nD) (r : Fin 8192) (y : Fin 1024) :
    part E c (tabIx r y) = E (entry (8192 * (c.val / 16) + r.val) y) := by
  have hk := coord_lt c
  unfold part
  rw [Layout.blockN_apply]
  congr 1
  funext b
  apply Fin.ext
  fin_cases b
  · show ((c.val / 16 % 2) * 1 + 0) * 8192 + r.val = min (8192 * (c.val / 16) + r.val) 16383
    have := r.isLt
    omega
  · show 0 * 1024 + y.val = y.val
    omega

/-- On the device that holds the row of the index `w`, the fetched entry times the mask is the table's entry. -/
theorem held_entry (E : S16384x1024.Idx → EReal) (c : Dev nD) (w : BitVec 32) (y : Fin 1024) (h : w.toNat < 16384)
    (hc : w.toNat / 8192 = c.val / 16) :
    E (entry (8192 * (c.val / 16) + min (rowWord c w).toNat 8191) y) * (((heldBit c w).toNat : ℝ) : EReal) = E (entry w.toNat y) := by
  have e : 8192 * (w.toNat / 8192) + min (w.toNat % 8192) 8191 = w.toNat := by omega
  rw [heldBit_held c w h hc, rowWord_held c w h hc, ← hc, e]
  show E _ * (((1 : ℕ) : ℝ) : EReal) = E _
  simp

section Scaled

variable (I : Ins Ideal) (E : S16384x1024.Idx → EReal) (a : S1024.Idx → BitVec 32)
variable (ha : ∀ i, (a i).toNat < 16384)
variable (hi : I.ids = fun c i => rowWord c (a i))
variable (hm : I.msk = fun c i => FloatOps.uitofp (F := Ideal) .f32 (heldBit c (a (idIx (i 0)))))
variable (ht : I.tab = part E)

include ha hi hm ht

/-- On the device that holds the row, the scaled row is the lookup. -/
theorem scaled_held (c : Dev nD) (i : S1024x1024.Idx) (hc : (a (idIx (i 0))).toNat / 8192 = c.val / 16) :
    scaled I c i = lookup E a i := by
  have h := ha (idIx (i 0))
  unfold scaled gath
  rw [ht, hm, hi]
  refine (congrArg₂ (fun x y : EReal => x * y) (half_entry E c (rowNo (rowWord c (a (idIx (i 0))))) (i 1)) rfl).trans ?_
  refine (held_entry E c (a (idIx (i 0))) (i 1) h hc).trans ?_
  have e1 : idIx (i 0) = ix1 (i 0) := by funext b; fin_cases b; rfl
  exact congrArg (fun k => E (entry (a k).toNat (i 1))) e1

/-- On the other device it is zero. -/
theorem scaled_else (c : Dev nD) (i : S1024x1024.Idx) (hc : (a (idIx (i 0))).toNat / 8192 ≠ c.val / 16) : scaled I c i = (0 : EReal) := by
  have h := ha (idIx (i 0))
  unfold scaled
  rw [hm]
  show gath I c i * (((heldBit c (a (idIx (i 0)))).toNat : ℝ) : EReal) = 0
  rw [heldBit_else c _ h hc]
  show gath I c i * (((0 : ℕ) : ℝ) : EReal) = 0
  simp

/-- The result is the lookup: of the device and its partner, one holds the row and the other adds zero. -/
theorem result_lookup (c : Dev nD) : result I c = lookup E a := by
  funext i
  have h := ha (idIx (i 0))
  have hk := coord_lt c
  have hp := pr_eq c
  show scaled I c i + scaled I (pr c) i = lookup E a i
  by_cases hc : (a (idIx (i 0))).toNat / 8192 = c.val / 16
  · rw [scaled_held I E a ha hi hm ht c i hc, scaled_else I E a ha hi hm ht (pr c) i (by omega)]
    exact add_zero _
  · rw [scaled_else I E a ha hi hm ht c i hc, scaled_held I E a ha hi hm ht (pr c) i (by omega)]
    exact zero_add _

end Scaled

/-- When every device is given the same indices, all of them rows of the table, and its own half of the table, every
    execution ends with the lookup in every device's result and the arguments as they were. -/
theorem value (m : (ℓ : Loc nD τ sig) → Buf (Elt Ideal) ℓ) (ρ : Dev nD → PrngReg) (E : S16384x1024.Idx → EReal)
    (a : S1024.Idx → BitVec 32) (ha : ∀ i, (a i).toNat < 16384) (hg : ∀ c, given m c = a) (hh : ∀ c, half m c = part E c) :
    θ_run (defs (F := Ideal)) (onTc (τ := τ) (main (F := Ideal))) ⟨m, fun _ => 0, ρ⟩ (fun r => ∀ c : Dev nD,
      r.2.mem ((c.tc : Thread nD τ).loc main_v17) = lookup E a
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (run m ρ) fun r h c => ⟨(h.1 c).1.trans (result_lookup (ins (V3 m)) E a ha
    ((ids_eq m).trans (funext fun c => by rw [hg c])) ((msk_eq m).trans (funext fun c => by rw [hg c]))
    ((tab_eq m).trans (funext hh)) c), (h.1 c).2⟩

end Cert.KernelIdeal.Steps

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_table_KernelIdeal
public import proofs.«01_k».proof.Proof.Gen.Pre_in_table_ReferenceIdeal
public import proofs.«01_k».proof.Proof.Kernel.Host
public import proofs.«01_k».proof.Proof.Value

@[expose] public section

noncomputable section

namespace Cert.Proof

open Idealize.ShloMosaic Idealize.ShloMosaic.TcCoe
open Idealize.SL.Sem

/-- The idealized kernel and the reference end with the same result, the lookup. -/
theorem same_result : @Cert.algebraic_KernelIdeal_ReferenceIdeal_pre_in_table_KernelIdeal Cert.KernelIdeal.Gen.facts
    Cert.ReferenceIdeal.Gen.facts Cert.Pre_in_table_KernelIdeal.Gen.facts := by
  intro m g m' g' hpre hagree
  have ha : ∀ i, _ := fun i => Cert.KernelIdeal.Steps.in_table _ _ (hpre 0) i
  rw [(hagree 0).1] at ha
  exact ⟨_, Cert.KernelIdeal.Steps.value m g _ _ ha (fun c => (hagree c).1) (fun c => (hagree c).2),
    Cert.ReferenceIdeal.Steps.value m' g' ha⟩

/-- Every claim holds. -/
theorem claim : Cert.Claim :=
  ⟨Cert.Kernel.Gen.facts, Cert.KernelIdeal.Gen.facts, Cert.ReferenceIdeal.Gen.facts, Cert.Pre_in_table_KernelIdeal.Gen.facts,
    Cert.Pre_in_table_ReferenceIdeal.Gen.facts,
    fun m g _ => Cert.Kernel.Steps.frame m g,
    fun m g _ => Cert.KernelIdeal.Steps.frame m g,
    fun m g _ => Cert.KernelIdeal.Steps.frame m g,
    fun m g _ => Cert.ReferenceIdeal.Steps.frame m g,
    fun m g _ => Cert.ReferenceIdeal.Steps.frame m g,
    trivial,
    same_result⟩

end Cert.Proof

end
